-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_and_scale [hPre_finite_tokens_and_scale : Cert.Pre_finite_tokens_and_scale.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_and_scale [hPre_finite_tokens_and_scale : Cert.Pre_finite_tokens_and_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_and_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_tokens_and_scale [hKernelIdeal : Cert.KernelIdeal.Facts] [hPre_finite_tokens_and_scale : Cert.Pre_finite_tokens_and_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_and_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_tokens_and_scale [hReferenceIdeal : Cert.ReferenceIdeal.Facts] [hPre_finite_tokens_and_scale : Cert.Pre_finite_tokens_and_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_and_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_tokens_and_scale [hKernelIdeal : Cert.KernelIdeal.Facts] [hReferenceIdeal : Cert.ReferenceIdeal.Facts] [hPre_finite_tokens_and_scale : Cert.Pre_finite_tokens_and_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_and_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_tokens_and_scale : Cert.Pre_finite_tokens_and_scale.Facts),
    quiescent_Kernel (hKernel := hKernel)
    ∧ quiescent_KernelIdeal (hKernelIdeal := hKernelIdeal)
    ∧ quiescent_KernelIdeal_pre_finite_tokens_and_scale (hKernelIdeal := hKernelIdeal) (hPre_finite_tokens_and_scale := hPre_finite_tokens_and_scale)
    ∧ quiescent_ReferenceIdeal (hReferenceIdeal := hReferenceIdeal)
    ∧ quiescent_ReferenceIdeal_pre_finite_tokens_and_scale (hReferenceIdeal := hReferenceIdeal) (hPre_finite_tokens_and_scale := hPre_finite_tokens_and_scale)
    ∧ preserves_Kernel_KernelIdeal
    ∧ algebraic_KernelIdeal_ReferenceIdeal_pre_finite_tokens_and_scale (hKernelIdeal := hKernelIdeal) (hReferenceIdeal := hReferenceIdeal) (hPre_finite_tokens_and_scale := hPre_finite_tokens_and_scale)
-- ==== Pre_finite_tokens_and_scale.lean ====
abbrev S4x8192x768 : Shape := ⟨3, ![4, 8192, 768]⟩
abbrev S768 : Shape := ⟨1, ![768]⟩
abbrev S96x768 : Shape := ⟨2, ![96, 768]⟩
abbrev S4x8192 : Shape := ⟨2, ![4, 8192]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S4x8192x768 .f32) (main_arg1 : FVec F S768 .f32) (main_arg2 : FVec F S768 .f32) (main_arg3 : FVec F S96x768 .f32) (main_arg4 : IVec S4x8192 32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  main_v8
-- ==== Kernel.lean ====
abbrev S4x8192x768 : Shape := ⟨3, ![4, 8192, 768]⟩
abbrev S768 : Shape := ⟨1, ![768]⟩
abbrev S96x768 : Shape := ⟨2, ![96, 768]⟩
abbrev S4x8192 : Shape := ⟨2, ![4, 8192]⟩
abbrev S32768x768 : Shape := ⟨2, ![32768, 768]⟩
abbrev S8x1x4096 : Shape := ⟨3, ![8, 1, 4096]⟩
abbrev S1x768 : Shape := ⟨2, ![1, 768]⟩
abbrev S1x1 : Shape := ⟨2, ![1, 1]⟩
abbrev S4096x768 : Shape := ⟨2, ![4096, 768]⟩
abbrev S1x1x4096 : Shape := ⟨3, ![1, 1, 4096]⟩
abbrev S96x128 : Shape := ⟨2, ![96, 128]⟩
abbrev S4096 : Shape := ⟨1, ![4096]⟩
abbrev S4096x1 : Shape := ⟨2, ![4096, 1]⟩
abbrev S1x4096 : Shape := ⟨2, ![1, 4096]⟩
abbrev S96x4096 : Shape := ⟨2, ![96, 4096]⟩
abbrev S96 : Shape := ⟨1, ![96]⟩
abbrev S96x1 : Shape := ⟨2, ![96, 1]⟩
abbrev S1x96x768 : Shape := ⟨3, ![1, 96, 768]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S768, .f32⟩
  | .hbm, ⟨2, _⟩ => ⟨S768, .f32⟩
  | .hbm, ⟨3, _⟩ => ⟨S96x768, .f32⟩
  | .hbm, ⟨4, _⟩ => ⟨S4x8192, .i32⟩
  | .hbm, ⟨5, _⟩ => ⟨S32768x768, .f32⟩
  | .hbm, ⟨6, _⟩ => ⟨S8x1x4096, .i32⟩
  | .hbm, ⟨7, _⟩ => ⟨S1x768, .f32⟩
  | .hbm, ⟨8, _⟩ => ⟨S1x768, .f32⟩
  | .hbm, ⟨9, _⟩ => ⟨S1x1, .f32⟩
  | .hbm, ⟨10, _⟩ => ⟨S1, .f32⟩
  | .local _ .vmem, ⟨0, _⟩ => ⟨S4096x768, .f32⟩
  | .local _ .vmem, ⟨1, _⟩ => ⟨S4096x768, .f32⟩
  | .local _ .vmem, ⟨2, _⟩ => ⟨S1x1x4096, .i32⟩
  | .local _ .vmem, ⟨3, _⟩ => ⟨S1x1x4096, .i32⟩
  | .local _ .vmem, ⟨4, _⟩ => ⟨S1x768, .f32⟩
  | .local _ .vmem, ⟨5, _⟩ => ⟨S1x768, .f32⟩
  | .local _ .vmem, ⟨6, _⟩ => ⟨S96x768, .f32⟩
  | .local _ .vmem, ⟨7, _⟩ => ⟨S1x1, .f32⟩
  | .local _ .vmem, ⟨8, _⟩ => ⟨S96x768, .f32⟩
  | .local _ .vmem, ⟨9, _⟩ => ⟨S96x128, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x8192x768 : Shape := ⟨3, ![4, 8192, 768]⟩
abbrev S768 : Shape := ⟨1, ![768]⟩
abbrev S96x768 : Shape := ⟨2, ![96, 768]⟩
abbrev S4x8192 : Shape := ⟨2, ![4, 8192]⟩
abbrev S_ : Shape := ⟨0, ![]⟩
abbrev S4x8192x1 : Shape := ⟨3, ![4, 8192, 1]⟩
abbrev S1x1x768 : Shape := ⟨3, ![1, 1, 768]⟩
abbrev S32768x768 : Shape := ⟨2, ![32768, 768]⟩
abbrev S32768 : Shape := ⟨1, ![32768]⟩
abbrev S32768x1 : Shape := ⟨2, ![32768, 1]⟩
abbrev S96 : Shape := ⟨1, ![96]⟩
abbrev S96x1 : Shape := ⟨2, ![96, 1]⟩
abbrev S1x768 : Shape := ⟨2, ![1, 768]⟩
abbrev S95x768 : Shape := ⟨2, ![95, 768]⟩
abbrev S768x95 : Shape := ⟨2, ![768, 95]⟩
abbrev S95x95 : Shape := ⟨2, ![95, 95]⟩
abbrev S1 : Shape := ⟨1, ![1]⟩

abbrev nBuf : Space → Nat
  | .hbm => 110
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768, .f32⟩
  | .hbm, ⟨2, _⟩ => ⟨S768, .f32⟩
  | .hbm, ⟨3, _⟩ => ⟨S96x768, .f32⟩
  | .hbm, ⟨4, _⟩ => ⟨S4x8192, .i32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S4x8192x768, .f32⟩
  | .hbm, ⟨12, _⟩ => ⟨S4x8192x768, .f32⟩
  | .hbm, ⟨13, _⟩ => ⟨S4x8192x768, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x768, .f32⟩
  | .hbm, ⟨21, _⟩ => ⟨S4x8192x768, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x768, .f32⟩
  | .hbm, ⟨27, _⟩ => ⟨S4x8192x768, .f32⟩
  | .hbm, ⟨28, _⟩ => ⟨S1x1x768, .f32⟩
  | .hbm, ⟨29, _⟩ => ⟨S4x8192x768, .f32⟩
  | .hbm, ⟨30, _⟩ => ⟨S4x8192x768, .f32⟩
  | .hbm, ⟨31, _⟩ => ⟨S1x1x768, .f32⟩
  | .hbm, ⟨32, _⟩ => ⟨S4x8192x768, .f32⟩
  | .hbm, ⟨33, _⟩ => ⟨S4x8192x768, .f32⟩
  | .hbm, ⟨34, _⟩ => ⟨S32768x768, .f32⟩
  | .hbm, ⟨35, _⟩ => ⟨S32768, .i32⟩
  | .hbm, ⟨36, _⟩ => ⟨S_, .f32⟩
  | .hbm, ⟨37, _⟩ => ⟨S96x768, .f32⟩
  | .hbm, ⟨38, _⟩ => ⟨S32768x1, .i32⟩
  | .hbm, ⟨39, _⟩ => ⟨S96x768, .f32⟩
  | .hbm, ⟨40, _⟩ => ⟨S_, .f32⟩
  | .hbm, ⟨41, _⟩ => ⟨S32768, .f32⟩
  | .hbm, ⟨42, _⟩ => ⟨S_, .f32⟩
  | .hbm, ⟨43, _⟩ => ⟨S96, .f32⟩
  | .hbm, ⟨44, _⟩ => ⟨S32768x1, .i32⟩
  | .hbm, ⟨45, _⟩ => ⟨S96, .f32⟩
  | .hbm, ⟨46, _⟩ => ⟨S96x768, .f32⟩
  | .hbm, ⟨47, _⟩ => ⟨S96x768, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S96, .f32⟩
  | .hbm, ⟨54, _⟩ => ⟨S96, .f32⟩
  | .hbm, ⟨55, _⟩ => ⟨S96x1, .f32⟩
  | .hbm, ⟨56, _⟩ => ⟨S96x768, .f32⟩
  | .hbm, ⟨57, _⟩ => ⟨S96x768, .f32⟩
  | .hbm, ⟨58, _⟩ => ⟨S96, .i32⟩
  | .hbm, ⟨59, _⟩ => ⟨S_, .i32⟩
  | .hbm, ⟨60, _⟩ => ⟨S96, .i32⟩
  | .hbm, ⟨61, _⟩ => ⟨S96, .i1⟩
  | .hbm, ⟨62, _⟩ => ⟨S96, .f32⟩
  | .hbm, ⟨63, _⟩ => ⟨S96x1, .f32⟩
  | .hbm, ⟨64, _⟩ => ⟨S_, .f32⟩
  | .hbm, ⟨65, _⟩ => ⟨S96x768, .f32⟩
  | .hbm, ⟨66, _⟩ => ⟨S96x768, .f32⟩
  | .hbm, ⟨67, _⟩ => ⟨S96x768, .f32⟩
  | .hbm, ⟨68, _⟩ => ⟨S96x768, .f32⟩
  | .hbm, ⟨69, _⟩ => ⟨S96x768, .f32⟩
  | .hbm, ⟨70, _⟩ => ⟨S_, .f32⟩
  | .hbm, ⟨71, _⟩ => ⟨S96, .f32⟩
  | .hbm, ⟨72, _⟩ => ⟨S96x1, .f32⟩
  | .hbm, ⟨73, _⟩ => ⟨S_, .f32⟩
  | .hbm, ⟨74, _⟩ => ⟨S96x1, .f32⟩
  | .hbm, ⟨75, _⟩ => ⟨S96x1, .f32⟩
  | .hbm, ⟨76, _⟩ => ⟨S96x768, .f32⟩
  | .hbm, ⟨77, _⟩ => ⟨S96x768, .f32⟩
  | .hbm, ⟨78, _⟩ => ⟨S96x768, .f32⟩
  | .hbm, ⟨79, _⟩ => ⟨S_, .f32⟩
  | .hbm, ⟨80, _⟩ => ⟨S96, .f32⟩
  | .hbm, ⟨81, _⟩ => ⟨S96x1, .f32⟩
  | .hbm, ⟨82, _⟩ => ⟨S_, .f32⟩
  | .hbm, ⟨83, _⟩ => ⟨S96x1, .f32⟩
  | .hbm, ⟨84, _⟩ => ⟨S96x1, .f32⟩
  | .hbm, ⟨85, _⟩ => ⟨S96x768, .f32⟩
  | .hbm, ⟨86, _⟩ => ⟨S96x768, .f32⟩
  | .hbm, ⟨87, _⟩ => ⟨S_, .f32⟩
  | .hbm, ⟨88, _⟩ => ⟨S96x1, .f32⟩
  | .hbm, ⟨89, _⟩ => ⟨S96x1, .f32⟩
  | .hbm, ⟨90, _⟩ => ⟨S96x1, .f32⟩
  | .hbm, ⟨91, _⟩ => ⟨S96x768, .f32⟩
  | .hbm, ⟨92, _⟩ => ⟨S96x768, .f32⟩
  | .hbm, ⟨93, _⟩ => ⟨S1x768, .f32⟩
  | .hbm, ⟨94, _⟩ => ⟨S96x768, .f32⟩
  | .hbm, ⟨95, _⟩ => ⟨S96x768, .f32⟩
  | .hbm, ⟨96, _⟩ => ⟨S1x768, .f32⟩
  | .hbm, ⟨97, _⟩ => ⟨S96x768, .f32⟩
  | .hbm, ⟨98, _⟩ => ⟨S96x768, .f32⟩
  | .hbm, ⟨99, _⟩ => ⟨S95x768, .f32⟩
  | .hbm, ⟨100, _⟩ => ⟨S95x768, .f32⟩
  | .hbm, ⟨101, _⟩ => ⟨S768x95, .f32⟩
  | .hbm, ⟨102, _⟩ => ⟨S95x95, .f32⟩
  | .hbm, ⟨103, _⟩ => ⟨S_, .f32⟩
  | .hbm, ⟨104, _⟩ => ⟨S95x95, .f32⟩
  | .hbm, ⟨105, _⟩ => ⟨S95x95, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Proof.KernelValue.lean ====
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The per-segment sums after one more block of tokens `x` with labels `t`. -/
abbrev segStep (x : Vec F S4096x768 .f32) (t : Vec F S1x1x4096 .i32) (s : Vec F S96x768 .f32) : Vec F S96x768 .f32 :=
  k0_pay1 (k0_pay15 x t s)

/-- The per-segment counts after one more block of labels `t`. -/
abbrev cntStep (t : Vec F S1x1x4096 .i32) (s : Vec F S96x128 .f32) : Vec F S96x128 .f32 :=
  k0_pay2 (k0_pay14 t) s

theorem sout_B0 (c : Dev nD) (i : grid0.Coords) (a1 : Memref sig .tc .vmem S4096x768 .f32) (h1 : a1.IsWhole) (a2 : Memref sig .tc .vmem S1x1x4096 .i32) (h2 : a2.IsWhole) (a3 : Memref sig .tc .vmem S1x768 .f32) (h3 : a3.IsWhole) (a4 : Memref sig .tc .vmem S1x768 .f32) (h4 : a4.IsWhole) (a5 : Memref sig .tc .vmem S96x768 .f32) (h5 : a5.IsWhole) (a6 : Memref sig .tc .vmem S1x1 .f32) (h6 : a6.IsWhole) (a7 : Memref sig .tc .vmem S96x768 .f32) (h7 : a7.IsWhole) (a8 : Memref sig .tc .vmem S96x128 .f32) (h8 : a8.IsWhole) (hc0 : ¬cond0_0 i) (hc1 : ¬cond0_1 i)
    (x0 : Vec F S4096x768 .f32) (x1 : Vec F S1x1x4096 .i32) (x2 x3 : Vec F S1x768 .f32) (x4 xs0 : Vec F S96x768 .f32) (xs1 : Vec F S96x128 .f32) :
    sout0_B_0 c i a1 h1 a2 h2 a3 h3 a4 h4 a5 h5 a6 h6 a7 h7 a8 h8 hc0 hc1 x0 x1 x2 x3 x4 xs0 xs1 = segStep x0 x1 xs0 := by
  unfold sout0_B_0
  rw [View.read_writes_eq_canon _ _ _ (scover0_B_0 c i a1 h1 a2 h2 a3 h3 a4 h4 a5 h5 a6 h6 a7 h7 a8 h8 hc0 hc1 x0 x1 x2 x3 x4 xs0 xs1)]
  unfold kernelRun0_B
  dsimp only
  sl_unfold_words
  rw [View.canon_unit_zero hz]
  simp only [View.readAt_eq_ld, h1.read_unread, h2.read_unread, h7.read_unread, View.ld_unit_zero (S := S4096x768) hz, View.ld_unit_zero (S := S96x768) hz, View.ld_unit_zero (S := S1x1x4096) hz3]

theorem sout_B1 (c : Dev nD) (i : grid0.Coords) (a1 : Memref sig .tc .vmem S4096x768 .f32) (h1 : a1.IsWhole) (a2 : Memref sig .tc .vmem S1x1x4096 .i32) (h2 : a2.IsWhole) (a3 : Memref sig .tc .vmem S1x768 .f32) (h3 : a3.IsWhole) (a4 : Memref sig .tc .vmem S1x768 .f32) (h4 : a4.IsWhole) (a5 : Memref sig .tc .vmem S96x768 .f32) (h5 : a5.IsWhole) (a6 : Memref sig .tc .vmem S1x1 .f32) (h6 : a6.IsWhole) (a7 : Memref sig .tc .vmem S96x768 .f32) (h7 : a7.IsWhole) (a8 : Memref sig .tc .vmem S96x128 .f32) (h8 : a8.IsWhole) (hc0 : ¬cond0_0 i) (hc1 : ¬cond0_1 i)
    (x0 : Vec F S4096x768 .f32) (x1 : Vec F S1x1x4096 .i32) (x2 x3 : Vec F S1x768 .f32) (x4 xs0 : Vec F S96x768 .f32) (xs1 : Vec F S96x128 .f32) :
    sout0_B_1 c i a1 h1 a2 h2 a3 h3 a4 h4 a5 h5 a6 h6 a7 h7 a8 h8 hc0 hc1 x0 x1 x2 x3 x4 xs0 xs1 = cntStep x1 xs1 := by
  unfold sout0_B_1
  rw [View.read_writes_eq_canon _ _ _ (scover0_B_1 c i a1 h1 a2 h2 a3 h3 a4 h4 a5 h5 a6 h6 a7 h7 a8 h8 hc0 hc1 x0 x1 x2 x3 x4 xs0 xs1)]
  unfold kernelRun0_B
  dsimp only
  sl_unfold_words
  rw [View.canon_unit_zero hz]
  simp only [View.readAt_eq_ld, h2.read_unread, h8.read_unread, View.ld_unit_zero (S := S96x128) hz, View.ld_unit_zero (S := S1x1x4096) hz3]

theorem sout_A0 (c : Dev nD) (i : grid0.Coords) (a1 : Memref sig .tc .vmem S4096x768 .f32) (h1 : a1.IsWhole) (a2 : Memref sig .tc .vmem S1x1x4096 .i32) (h2 : a2.IsWhole) (a3 : Memref sig .tc .vmem S1x768 .f32) (h3 : a3.IsWhole) (a4 : Memref sig .tc .vmem S1x768 .f32) (h4 : a4.IsWhole) (a5 : Memref sig .tc .vmem S96x768 .f32) (h5 : a5.IsWhole) (a6 : Memref sig .tc .vmem S1x1 .f32) (h6 : a6.IsWhole) (a7 : Memref sig .tc .vmem S96x768 .f32) (h7 : a7.IsWhole) (a8 : Memref sig .tc .vmem S96x128 .f32) (h8 : a8.IsWhole) (hc0 : cond0_0 i) (hc1 : ¬cond0_1 i)
    (x0 : Vec F S4096x768 .f32) (x1 : Vec F S1x1x4096 .i32) (x2 x3 : Vec F S1x768 .f32) (x4 : Vec F S96x768 .f32) :
    sout0_A_0 c i a1 h1 a2 h2 a3 h3 a4 h4 a5 h5 a6 h6 a7 h7 a8 h8 hc0 hc1 x0 x1 x2 x3 x4 = segStep x0 x1 k0_pay11 := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S96x768) hz, View.readCov_unit_zero (S := S96x768) _ hz]
  simp only [View.readAt_eq_ld, h1.read_unread, h2.read_unread, View.ld_unit_zero (S := S4096x768) hz, View.ld_unit_zero (S := S96x768) hz, View.ld_unit_zero (S := S1x1x4096) hz3]

theorem sout_A1 (c : Dev nD) (i : grid0.Coords) (a1 : Memref sig .tc .vmem S4096x768 .f32) (h1 : a1.IsWhole) (a2 : Memref sig .tc .vmem S1x1x4096 .i32) (h2 : a2.IsWhole) (a3 : Memref sig .tc .vmem S1x768 .f32) (h3 : a3.IsWhole) (a4 : Memref sig .tc .vmem S1x768 .f32) (h4 : a4.IsWhole) (a5 : Memref sig .tc .vmem S96x768 .f32) (h5 : a5.IsWhole) (a6 : Memref sig .tc .vmem S1x1 .f32) (h6 : a6.IsWhole) (a7 : Memref sig .tc .vmem S96x768 .f32) (h7 : a7.IsWhole) (a8 : Memref sig .tc .vmem S96x128 .f32) (h8 : a8.IsWhole) (hc0 : cond0_0 i) (hc1 : ¬cond0_1 i)
    (x0 : Vec F S4096x768 .f32) (x1 : Vec F S1x1x4096 .i32) (x2 x3 : Vec F S1x768 .f32) (x4 : Vec F S96x768 .f32) :
    sout0_A_1 c i a1 h1 a2 h2 a3 h3 a4 h4 a5 h5 a6 h6 a7 h7 a8 h8 hc0 hc1 x0 x1 x2 x3 x4 = cntStep x1 k0_pay12 := by
  unfold sout0_A_1
  rw [View.read_writes_eq_canon _ _ _ (scover0_A_1 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S96x128) hz, View.readCov_unit_zero (S := S96x128) _ hz]
  simp only [View.readAt_eq_ld, h2.read_unread, View.ld_unit_zero (S := S1x1x4096) hz3]

/-- Column 0 of the counts. -/
abbrev col0 (cnt : Vec F S96x128 .f32) : Vec F S96x1 .f32 :=
  View.ld cnt (Rect.unit ![0, 0] ![96, 1] inb_S96x128_S96x1_0_0)

/-- What the last grid point stores, from scale `w`, bias `b`, dictionary `dic`, counts and per-segment sums. -/
abbrev finish (w b : Vec F S1x768 .f32) (dic : Vec F S96x768 .f32) (cnt : Vec F S96x128 .f32) (seg : Vec F S96x768 .f32) :
    Vec F S1x1 .f32 :=
  k0_pay3 (k0_pay4 w) (k0_pay5 b) (k0_pay7 w b dic (col0 cnt) seg) k0_pay8 (k0_pay9 w b dic (col0 cnt) seg)
    (k0_pay10 w b dic (col0 cnt) seg)

/-- Reading column 0 back after the whole buffer was written. -/
theorem col_read (a : Memref sig .tc .vmem S96x128 .f32) (Z : Vec F S96x128 .f32) :
    a.view.readCov [⟨Rect.unit ![0, 0] ![96, 128] inb_S96x128_S96x128_0_0, Z⟩]
      (Rect.unit ![0, 0] ![96, 1] inb_S96x128_S96x1_0_0).toLoadRect = col0 Z := by
  rw [View.readCov_eq_canon', View.canon_unit_zero (S := S96x128) hz]
  rfl

theorem out_C (c : Dev nD) (i : grid0.Coords) (a1 : Memref sig .tc .vmem S4096x768 .f32) (h1 : a1.IsWhole) (a2 : Memref sig .tc .vmem S1x1x4096 .i32) (h2 : a2.IsWhole) (a3 : Memref sig .tc .vmem S1x768 .f32) (h3 : a3.IsWhole) (a4 : Memref sig .tc .vmem S1x768 .f32) (h4 : a4.IsWhole) (a5 : Memref sig .tc .vmem S96x768 .f32) (h5 : a5.IsWhole) (a6 : Memref sig .tc .vmem S1x1 .f32) (h6 : a6.IsWhole) (a7 : Memref sig .tc .vmem S96x768 .f32) (h7 : a7.IsWhole) (a8 : Memref sig .tc .vmem S96x128 .f32) (h8 : a8.IsWhole) (hc0 : ¬cond0_0 i) (hc1 : cond0_1 i)
    (x0 : Vec F S4096x768 .f32) (x1 : Vec F S1x1x4096 .i32) (x2 x3 : Vec F S1x768 .f32) (x4 xs0 : Vec F S96x768 .f32) (xs1 : Vec F S96x128 .f32) :
    out0_C_5 c i a1 h1 a2 h2 a3 h3 a4 h4 a5 h5 a6 h6 a7 h7 a8 h8 hc0 hc1 x0 x1 x2 x3 x4 xs0 xs1 =
      finish x2 x3 x4 (cntStep x1 xs1) (segStep x0 x1 xs0) := by
  unfold out0_C_5
  rw [View.read_writes_eq_canon _ _ _ (cover0_C_5 c i a1 h1 a2 h2 a3 h3 a4 h4 a5 h5 a6 h6 a7 h7 a8 h8 hc0 hc1 x0 x1 x2 x3 x4 xs0 xs1)]
  unfold kernelRun0_C
  dsimp only
  sl_unfold_words
  rw [View.canon_unit_zero hz]
  simp only [View.readAt_eq_ld, h1.read_unread, h2.read_unread, h3.read_unread, h4.read_unread, h5.read_unread, h7.read_unread, h8.read_unread, View.ld_unit_zero (S := S4096x768) hz, View.ld_unit_zero (S := S96x768) hz, View.ld_unit_zero (S := S1x1x4096) hz3, View.ld_unit_zero (S := S1x768) hz, View.ld_unit_zero (S := S96x128) hz, View.readCov_unit_zero (S := S96x768) _ hz]
  rw [col_read]

/-- The per-segment sums after grid point `n`. -/
def segAt (c : Dev nD) : (n : ℕ) → n < cfg0.N → Vec F S96x768 .f32
  | 0, h => segStep (iblk m c 0 ⟨0, h⟩) (iblk m c 1 ⟨0, h⟩) k0_pay11
  | n + 1, h => segStep (iblk m c 0 ⟨n + 1, h⟩) (iblk m c 1 ⟨n + 1, h⟩) (segAt c n (Nat.lt_of_succ_lt h))

/-- The per-segment counts after grid point `n`. -/
def cntAt (c : Dev nD) : (n : ℕ) → n < cfg0.N → Vec F S96x128 .f32
  | 0, h => cntStep (iblk m c 1 ⟨0, h⟩) k0_pay12
  | n + 1, h => cntStep (iblk m c 1 ⟨n + 1, h⟩) (cntAt c n (Nat.lt_of_succ_lt h))

/-- Before the last point the two scratch buffers hold the running sums and counts. -/
theorem outsAt_eq (c : Dev nD) : ∀ (n : ℕ) (h : n < cfg0.N) (h7 : n < 7),
    (outsAt0 m c n h).2.1 = segAt m c n h ∧ (outsAt0 m c n h).2.2 = cntAt m c n h
  | 0, h, _ => by
    have e := outsAt0_A m c ⟨0, h⟩ rfl (by dsimp only; omega)
    rw [sout_A0, sout_A1] at e
    exact ⟨congrArg (fun p => p.2.1) e, congrArg (fun p => p.2.2) e⟩
  | n + 1, h, h7 => by
    have ih := outsAt_eq c n (Nat.lt_of_succ_lt h) (by omega)
    have e := outsAt0_B m c ⟨n + 1, h⟩ (by dsimp only; omega) (by dsimp only; omega)
    rw [sout_B0, sout_B1] at e
    constructor
    · refine (congrArg (fun p => p.2.1) e).trans ?_
      show segStep _ _ (outsAt0 m c n _).2.1 = segStep _ _ (segAt m c n _)
      rw [ih.1]
    · refine (congrArg (fun p => p.2.2) e).trans ?_
      show cntStep _ (outsAt0 m c n _).2.2 = cntStep _ (cntAt m c n _)
      rw [ih.2]

theorem lt7 : 7 < cfg0.N := by rw [show cfg0.N = 8 from N_0]; decide

/-- The loss in its (1, 1) buffer: what the last grid point stores. -/
def result (c : Dev nD) : Vec F S1x1 .f32 :=
  finish (iblk m c 2 t0_7) (iblk m c 3 t0_7) (iblk m c 4 t0_7) (cntAt m c 7 lt7) (segAt m c 7 lt7)

theorem out_last (c : Dev nD) : (outsAt0 m c t0_7.val t0_7.isLt).1 = result m c := by
  have e := outsAt0_C m c t0_7 (by decide) (by decide)
  have ih := outsAt_eq m c 6 (Nat.lt_of_succ_lt lt7) (by decide)
  rw [out_C] at e
  refine (congrArg (fun p => p.1) e).trans ?_
  show finish _ _ _ (cntStep _ (outsAt0 m c 6 _).2.2) (segStep _ _ (outsAt0 m c 6 _).2.1) =
    finish _ _ _ (cntStep _ (cntAt m c 6 _)) (segStep _ _ (segAt m c 6 _))
  rw [ih.1, ih.2]
  rfl

/-- The one write-back, at the last point, writes it. -/
theorem flushed_eq (c : Dev nD) (t : Fin cfg0.N) (hf : (cfg0.win 5).flush t = true) :
    (dats m 0 c).flushed 5 t = ((cfg0.win 5).blk t).view.read (Elt F) (result m c) := by
  have hN : cfg0.N = 8 := N_0
  have h3 : t.val = 7 := by have := (flush0_5 t).mp hf; have := t.isLt; omega
  obtain rfl : t = t0_7 := Fin.ext h3
  show (cfg0.win 5).cut (grid0.coords t0_7) ((dats m 0 c).after 5 t0_7) = _
  rw [after0_5, out_last]
  have hz' : (fun a => win0_5.index t0_7 a * main_v4.ty.shape.size a) = fun _ => 0 := funext fun a => by fin_cases a <;> decide
  exact (Memref.read_access_unit_zero (Elt F) main_v4 hz' (fun a => by rw [congrFun hz' a]; simp) (result m c)).symm

theorem final_o (c : Dev nD) : (dats m 0 c).arrAt 5 cfg0.N = result m c :=
  (dats m 0 c).arrAt_eq_of_cover 5 (result m c) (flushed_eq m c) fun i =>
    ⟨t0_7, (flush0_5 t0_7).mpr rfl, by
      show i ∈ ((View.whole main_v4).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

/-- The host's reshape of the (1, 1) result. -/
theorem tail_eq (c : Dev nD) :
    Pipeline.afterTail₀ cfgs (dats m) 0 (V0 m) [hostOps1] c main_v5 = (shapeCast S1 (result m c) : Vec F S1 .f32) := by
  have h : Pipeline.withArrays spec0 c (V0 m c) (fun w => (dats m 0 c).arrAt w cfg0.N) (Proc.devRef .tc main_v4) = result m c :=
    (Pipeline.withArrays_arr spec0 (by decide) c (V0 m c) (fun w => (dats m 0 c).arrAt w cfg0.N) 5).trans (final_o m c)
  unfold Pipeline.afterTail₀
  rw [← h]
  unfold hostOps1
  simp only [List.flatten_cons, List.flatten_nil, List.append_nil]
  after_results
  rfl

/-- The run, read: the result, and the arguments unchanged. -/
theorem run : θ_run defs (onTc (τ := τ) (main (F := F))) ⟨m, fun _ => 0, ρ⟩ (fun r => ∀ c : Dev nD,
    (r.2.mem ((c.tc : Thread nD τ).loc main_v5) : Vec F S1 .f32) = shapeCast S1 (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v5 (Pipeline.mem_restRefs_of main_v5 (by decide) (by decide))).trans
    (tail_eq m c), h.2 c⟩) (θ_run_and (run_main m ρ) (unchanged m ρ))

end Cert.KernelIdeal.Hand

end
-- ==== Proof.KernelBlocks.lean ====
module

public import proofs.«01_k».proof.Proof.KernelValue
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- Token `n` is token `n % 8192` of batch `n / 8192`. -/
abbrev tokIx (n : Fin 32768) (d : Fin 768) : S4x8192x768.Idx :=
  ix3 (⟨n.val / 8192, by omega⟩ : Fin 4) (⟨n.val % 8192, by omega⟩ : Fin 8192) d

abbrev labIx (n : Fin 32768) : S4x8192.Idx :=
  ix2 (⟨n.val / 8192, by omega⟩ : Fin 4) (⟨n.val % 8192, by omega⟩ : Fin 8192)

theorem V_tok (c : Dev nD) : (V m c main_v0 : Vec F S32768x768 .f32) =
    shapeCast S32768x768 (m ((c.tc : Thread nD τ).loc main_arg0) : Vec F S4x8192x768 .f32) shapeCasts_S4x8192x768_S32768x768 := by
  unfold V V0 hostOps0
  simp only [List.flatten_cons, List.flatten_nil, List.append_nil]
  after_results
  rfl

theorem V_lab (c : Dev nD) : (V m c main_v1 : Vec F S8x1x4096 .i32) =
    shapeCast S8x1x4096 (m ((c.tc : Thread nD τ).loc main_arg4) : Vec F S4x8192 .i32) shapeCasts_S4x8192_S8x1x4096 := by
  unfold V V0 hostOps0
  simp only [List.flatten_cons, List.flatten_nil, List.append_nil]
  after_results
  rfl

theorem V_w (c : Dev nD) : (V m c main_v2 : Vec F S1x768 .f32) =
    shapeCast S1x768 (m ((c.tc : Thread nD τ).loc main_arg1) : Vec F S768 .f32) shapeCasts_S768_S1x768 := by
  unfold V V0 hostOps0
  simp only [List.flatten_cons, List.flatten_nil, List.append_nil]
  after_results
  rfl

theorem V_b (c : Dev nD) : (V m c main_v3 : Vec F S1x768 .f32) =
    shapeCast S1x768 (m ((c.tc : Thread nD τ).loc main_arg2) : Vec F S768 .f32) shapeCasts_S768_S1x768 := by
  unfold V V0 hostOps0
  simp only [List.flatten_cons, List.flatten_nil, List.append_nil]
  after_results
  rfl

theorem cast_tok (x : Vec F S4x8192x768 .f32) (n : Fin 32768) (d : Fin 768) :
    shapeCast S32768x768 x shapeCasts_S4x8192x768_S32768x768 (ix2 n d) = x (tokIx n d) := by
  pointwise

theorem cast_lab (x : Vec F S4x8192 .i32) (t : Fin 8) (j : Fin 4096) :
    shapeCast S8x1x4096 x shapeCasts_S4x8192_S8x1x4096 (ix3 t 0 j) = x (labIx ⟨j.val + 4096 * t.val, by omega⟩) := by
  pointwise
  have h1 : t.val / 2 = (j.val + 4096 * t.val) / 8192 := by omega
  have h2 : t.val % 2 * 4096 + j.val = (j.val + 4096 * t.val) % 8192 := by omega
  simp only [h1, h2]

theorem cast_w (x : Vec F S768 .f32) (d : Fin 768) :
    shapeCast S1x768 x shapeCasts_S768_S1x768 (ix2 0 d) = x (ix1 d) := by
  pointwise

theorem blk0 (c : Dev nD) (t : Fin 8) (ht : t.val < cfg0.N) (j : Fin 4096) (d : Fin 768) :
    (iblk m c 0 ⟨t.val, ht⟩ : Vec F S4096x768 .f32) (ix2 j d) =
      (m ((c.tc : Thread nD τ).loc main_arg0) : Vec F S4x8192x768 .f32) (tokIx ⟨j.val + 4096 * t.val, by omega⟩ d) := by
  unfold iblk
  rw [View.read_apply]
  show (V m c main_v0 : Vec F S32768x768 .f32) _ = _
  rw [V_tok]
  refine Eq.trans ?_ (cast_tok _ _ _)
  congr 1
  have hi : win0_0.index ⟨t.val, ht⟩ 0 = t.val ∧ win0_0.index ⟨t.val, ht⟩ 1 = 0 := by
    revert ht; revert t; decide
  funext a
  apply Fin.ext
  match a with
  | ⟨0, _⟩ => show win0_0.index ⟨t.val, ht⟩ 0 * 4096 + 1 * j.val = j.val + 4096 * t.val; rw [hi.1]; omega
  | ⟨1, _⟩ => show win0_0.index ⟨t.val, ht⟩ 1 * 768 + 1 * d.val = d.val; rw [hi.2]; omega

theorem blk1 (c : Dev nD) (t : Fin 8) (ht : t.val < cfg0.N) (j : Fin 4096) :
    (iblk m c 1 ⟨t.val, ht⟩ : Vec F S1x1x4096 .i32) (ix3 0 0 j) =
      (m ((c.tc : Thread nD τ).loc main_arg4) : Vec F S4x8192 .i32) (labIx ⟨j.val + 4096 * t.val, by omega⟩) := by
  unfold iblk
  rw [View.read_apply]
  show (V m c main_v1 : Vec F S8x1x4096 .i32) _ = _
  rw [V_lab]
  refine Eq.trans ?_ (cast_lab _ t j)
  congr 1
  have hi : win0_1.index ⟨t.val, ht⟩ 0 = t.val ∧ win0_1.index ⟨t.val, ht⟩ 1 = 0 ∧ win0_1.index ⟨t.val, ht⟩ 2 = 0 := by
    revert ht; revert t; decide
  funext a
  apply Fin.ext
  match a with
  | ⟨0, _⟩ => show win0_1.index ⟨t.val, ht⟩ 0 * 1 + 1 * 0 = t.val; rw [hi.1]; omega
  | ⟨1, _⟩ => show win0_1.index ⟨t.val, ht⟩ 1 * 1 + 1 * 0 = 0; rw [hi.2.1]
  | ⟨2, _⟩ => show win0_1.index ⟨t.val, ht⟩ 2 * 4096 + 1 * j.val = j.val; rw [hi.2.2]; omega

theorem blk2 (c : Dev nD) (d : Fin 768) :
    (iblk m c 2 t0_7 : Vec F S1x768 .f32) (ix2 0 d) = (m ((c.tc : Thread nD τ).loc main_arg1) : Vec F S768 .f32) (ix1 d) := by
  unfold iblk
  rw [View.read_apply]
  show (V m c main_v2 : Vec F S1x768 .f32) _ = _
  rw [V_w]
  refine Eq.trans ?_ (cast_w _ _)
  congr 1
  funext a
  apply Fin.ext
  match a with
  | ⟨0, _⟩ => show win0_2.index t0_7 0 * 1 + 1 * 0 = 0; rw [show win0_2.index t0_7 0 = 0 by decide]
  | ⟨1, _⟩ => show win0_2.index t0_7 1 * 768 + 1 * d.val = d.val; rw [show win0_2.index t0_7 1 = 0 by decide]; omega

theorem blk3 (c : Dev nD) (d : Fin 768) :
    (iblk m c 3 t0_7 : Vec F S1x768 .f32) (ix2 0 d) = (m ((c.tc : Thread nD τ).loc main_arg2) : Vec F S768 .f32) (ix1 d) := by
  unfold iblk
  rw [View.read_apply]
  show (V m c main_v3 : Vec F S1x768 .f32) _ = _
  rw [V_b]
  refine Eq.trans ?_ (cast_w _ _)
  congr 1
  funext a
  apply Fin.ext
  match a with
  | ⟨0, _⟩ => show win0_3.index t0_7 0 * 1 + 1 * 0 = 0; rw [show win0_3.index t0_7 0 = 0 by decide]
  | ⟨1, _⟩ => show win0_3.index t0_7 1 * 768 + 1 * d.val = d.val; rw [show win0_3.index t0_7 1 = 0 by decide]; omega

theorem blk4 (c : Dev nD) (k : Fin 96) (d : Fin 768) :
    (iblk m c 4 t0_7 : Vec F S96x768 .f32) (ix2 k d) = (m ((c.tc : Thread nD τ).loc main_arg3) : Vec F S96x768 .f32) (ix2 k d) := by
  unfold iblk
  rw [View.read_apply]
  show (V m c main_arg3 : Vec F S96x768 .f32) _ = _
  rw [V_main_arg3]
  congr 1
  funext a
  apply Fin.ext
  match a with
  | ⟨0, _⟩ => show win0_4.index t0_7 0 * 96 + 1 * k.val = k.val; rw [show win0_4.index t0_7 0 = 0 by decide]; omega
  | ⟨1, _⟩ => show win0_4.index t0_7 1 * 768 + 1 * d.val = d.val; rw [show win0_4.index t0_7 1 = 0 by decide]; omega

end Cert.KernelIdeal.Hand

end
-- ==== Proof.Algebra.lean ====
module

public import Idealize.ShloMosaic.PureOps.Ideal
public import Idealize.ShloMosaic.PureOps.Ideal.Laws
public import Idealize.ShloMosaic.Lib.IdealHost

/-! The mathematics the two programs share, over the extended reals and free of shapes: tokens and segments are numbered
by `Fin`. The last theorem says that the two ways of computing the loss give one value. -/

@[expose] public section

noncomputable section

open Idealize.ShloMosaic

namespace Cert.Hand

/-! ## The literals -/

/-- The literal 768. -/
def c768 : EReal := Ideal.ofBits .f32 0x44400000#32
/-- The literal 1e-5. -/
def ceps : EReal := Ideal.ofBits .f32 0x3727C5AC#32
/-- The literal 0.1. -/
def ctenth : EReal := Ideal.ofBits .f32 0x3DCCCCCD#32

theorem c768_eq : c768 = ((768 : ℝ) : EReal) := by
  unfold c768
  simp only [Ideal.ofBits, Ideal.ieee]
  rw [if_neg (by decide), if_neg (by decide), if_neg (by decide)]
  rw [show (BitVec.extractLsb' 23 8 (0x44400000#32 : BitVec 32)).toNat = 136 from by decide,
    show (BitVec.extractLsb' 0 23 (0x44400000#32 : BitVec 32)).toNat = 4194304 from by decide]
  norm_num [zpow_neg]

theorem ceps_eq : ∃ e : ℝ, 0 < e ∧ ceps = (e : EReal) := by
  unfold ceps
  simp only [Ideal.ofBits, Ideal.ieee]
  rw [if_neg (by decide), if_neg (by decide), if_neg (by decide)]
  exact ⟨_, by positivity, rfl⟩

theorem ctenth_eq : ∃ e : ℝ, ctenth = (e : EReal) := by
  unfold ctenth
  simp only [Ideal.ofBits, Ideal.ieee]
  norm_num
  exact ⟨_, rfl⟩

/-! ## Sums and quotients -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div768_coe (r : ℝ) : Ideal.div (r : EReal) c768 = ((r / 768 : ℝ) : EReal) := by
  rw [c768_eq, Ideal.div_coe (by norm_num), ← EReal.coe_mul, mul_one_div]

theorem div768_top : Ideal.div (⊤ : EReal) c768 = ⊤ := by
  rw [c768_eq, Ideal.div_coe (by norm_num)]
  exact EReal.top_mul_coe_of_pos (by norm_num)

theorem div_coe_coe (r : ℝ) {y : ℝ} (h : y ≠ 0) : Ideal.div (r : EReal) (y : EReal) = ((r / y : ℝ) : EReal) := by
  rw [Ideal.div_coe h, ← EReal.coe_mul, mul_one_div]

theorem sqrt_pos_coe {r : ℝ} (h : 0 < r) : Ideal.sqrt (r : EReal) = ((Real.sqrt r : ℝ) : EReal) := by
  rw [Ideal.sqrt_coe, if_neg (not_lt.2 h.le)]

theorem rsqrt_pos_coe {r : ℝ} (h : 0 < r) : Ideal.rsqrt (r : EReal) = (((Real.sqrt r)⁻¹ : ℝ) : EReal) := by
  rw [Ideal.rsqrt_coe, if_neg (not_lt.2 h.le), if_neg h.ne']

/-- A finite sum no term of which is `⊥` is not `⊥`. -/
theorem sum_ne_bot {ι : Type*} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    intro hb
    rcases EReal.add_eq_bot_iff.1 hb with hb | hb
    · exact h a (Finset.mem_insert_self _ _) hb
    · exact ih (fun i hi => h i (Finset.mem_insert_of_mem hi)) hb

/-- A finite sum no term of which is `⊥` and one term of which is `⊤` is `⊤`. -/
theorem sum_eq_top {ι : Type*} (s : Finset ι) (f : ι → EReal) (h : ∀ i ∈ s, f i ≠ ⊥) {j : ι} (hj : j ∈ s) (ht : f j = ⊤) :
    ∑ i ∈ s, f i = ⊤ := by
  classical
  rw [← Finset.add_sum_erase s f hj, ht]
  exact EReal.top_add_of_ne_bot (sum_ne_bot _ _ fun i hi => h i (Finset.mem_of_mem_erase hi))

theorem sq_ne_bot (x : EReal) : x * x ≠ ⊥ := by
  induction x with
  | bot => simp
  | top => simp
  | coe r => rw [← EReal.coe_mul]; exact EReal.coe_ne_bot _

theorem sq_eq_top {x : EReal} (h : x = ⊤ ∨ x = ⊥) : x * x = ⊤ := by
  rcases h with rfl | rfl <;> simp

theorem isReal_of {x : EReal} (h1 : x ≠ ⊤) (h2 : x ≠ ⊥) : ∃ r : ℝ, x = (r : EReal) :=
  ⟨x.toReal, (EReal.coe_toReal h1 h2).symm⟩

/-! ## The layer norm of one row -/

/-- The mean of a row. -/
def mean (x : Fin 768 → EReal) : EReal := Ideal.div (∑ k, x k) c768

/-- Entry `d` of a row's layer norm, at the scale `w` and the shift `b` of that entry. -/
def lnorm (x : Fin 768 → EReal) (w b : EReal) (d : Fin 768) : EReal :=
  Ideal.div (x d - mean x) (Ideal.sqrt (Ideal.div (∑ k, (x k - mean x) * (x k - mean x)) c768 + ceps)) * w + b

/-- Entry `d` of a row over the root of its variance, the variance taken as the mean square less the squared mean. -/
def scaled (x : Fin 768 → EReal) (d : Fin 768) : EReal :=
  x d * Ideal.rsqrt (Ideal.div (∑ k, x k * x k) c768 - mean x * mean x + ceps)

def meanR (x : Fin 768 → ℝ) : ℝ := (∑ k, x k) / 768
def varR (x : Fin 768 → ℝ) : ℝ := (∑ k, (x k - meanR x) * (x k - meanR x)) / 768
def epsR : ℝ := ceps_eq.choose
theorem epsR_pos : 0 < epsR := ceps_eq.choose_spec.1
theorem ceps_coe : ceps = (epsR : EReal) := ceps_eq.choose_spec.2

theorem varR_nonneg (x : Fin 768 → ℝ) : 0 ≤ varR x :=
  div_nonneg (Finset.sum_nonneg fun k _ => mul_self_nonneg _) (by norm_num)

theorem varR_eq (x : Fin 768 → ℝ) : (∑ k, x k * x k) / 768 - meanR x * meanR x = varR x := by
  unfold varR
  have h : ∑ k, (x k - meanR x) * (x k - meanR x) = ∑ k, x k * x k - 2 * meanR x * ∑ k, x k + 768 * (meanR x * meanR x) := by
    have : ∀ k, (x k - meanR x) * (x k - meanR x) = x k * x k - 2 * meanR x * x k + meanR x * meanR x := fun k => by ring
    simp only [this, Finset.sum_add_distrib, Finset.sum_sub_distrib, ← Finset.mul_sum, Finset.sum_const, Finset.card_univ, Fintype.card_fin, nsmul_eq_mul]
    ring
  have hs : ∑ k, x k = 768 * meanR x := by unfold meanR; ring
  rw [h, hs]; ring

/-- The root of the variance. -/
def sdR (x : Fin 768 → ℝ) : ℝ := Real.sqrt (varR x + epsR)
theorem sdR_pos (x : Fin 768 → ℝ) : 0 < sdR x := Real.sqrt_pos.2 (add_pos_of_nonneg_of_pos (varR_nonneg x) epsR_pos)

theorem mean_coe (x : Fin 768 → ℝ) : mean (fun k => (x k : EReal)) = ((meanR x : ℝ) : EReal) := by
  unfold mean meanR
  rw [← coe_sum, div768_coe]

theorem lnorm_coe (x : Fin 768 → ℝ) (w : ℝ) (b : EReal) (d : Fin 768) :
    lnorm (fun k => (x k : EReal)) (w : EReal) b d = (((x d - meanR x) / sdR x * w : ℝ) : EReal) + b := by
  unfold lnorm
  rw [mean_coe]
  have : ∀ k, ((x k : EReal) - (meanR x : EReal)) * ((x k : EReal) - (meanR x : EReal)) = (((x k - meanR x) * (x k - meanR x) : ℝ) : EReal) :=
    fun k => by rw [← EReal.coe_sub, ← EReal.coe_mul]
  simp only [this]
  rw [← coe_sum, div768_coe, ceps_coe, ← EReal.coe_add]
  rw [show (∑ k, (x k - meanR x) * (x k - meanR x)) / 768 = varR x from rfl]
  rw [sqrt_pos_coe (add_pos_of_nonneg_of_pos (varR_nonneg x) epsR_pos), ← EReal.coe_sub]
  change Ideal.div _ ((sdR x : ℝ) : EReal) * _ + _ = _
  rw [div_coe_coe _ (sdR_pos x).ne', ← EReal.coe_mul]

theorem scaled_coe (x : Fin 768 → ℝ) (d : Fin 768) :
    scaled (fun k => (x k : EReal)) d = ((x d / sdR x : ℝ) : EReal) := by
  unfold scaled
  rw [mean_coe]
  simp only [← EReal.coe_mul]
  rw [← coe_sum, div768_coe, ← EReal.coe_sub, varR_eq, ceps_coe, ← EReal.coe_add,
    rsqrt_pos_coe (add_pos_of_nonneg_of_pos (varR_nonneg x) epsR_pos), ← EReal.coe_mul]
  rfl

/-! ## One segment -/

/-- Centring the summed rows and scaling them, then adding the shift once for every row: the sum of the layer norms. -/
theorem segment_eq {ι : Type*} (S : Finset ι) (x : ι → Fin 768 → ℝ) (w : ℝ) (b : EReal) (d : Fin 768) :
    (w : EReal) * ((∑ n ∈ S, scaled (fun k => (x n k : EReal)) d)
        - Ideal.div (∑ d', ∑ n ∈ S, scaled (fun k => (x n k : EReal)) d') c768) + ((S.card : ℝ) : EReal) * b
      = ∑ n ∈ S, lnorm (fun k => (x n k : EReal)) (w : EReal) b d := by
  simp only [lnorm_coe, scaled_coe]
  simp only [← coe_sum]
  rw [div768_coe, ← EReal.coe_sub, ← EReal.coe_mul, Finset.sum_add_distrib, Finset.sum_const, EReal.nsmul_eq_mul, ← coe_sum]
  congr 2
  rw [Finset.sum_comm, Finset.sum_div, ← Finset.sum_sub_distrib, Finset.mul_sum]
  refine Finset.sum_congr rfl fun n _ => ?_
  rw [← Finset.sum_div]
  unfold meanR
  ring

/-! ## The squared sums -/

/-- Over the rows of `u`, each entry a real plus a shift of its column: the products of every two rows, summed, are the
squares of the column sums, summed. -/
theorem pair_sum_eq (p : Fin 95 → Fin 768 → ℝ) (b : Fin 768 → EReal) :
    ∑ i : Fin 95, ∑ j : Fin 95, Ideal.div (∑ d, ((p i d : EReal) + b d) * ((p j d : EReal) + b d)) c768
      = Ideal.div (∑ d, (∑ i : Fin 95, ((p i d : EReal) + b d)) * (∑ i : Fin 95, ((p i d : EReal) + b d))) c768 := by
  by_cases hb : ∀ d, b d ≠ ⊤ ∧ b d ≠ ⊥
  · have hb' : ∀ d, b d = (((b d).toReal : ℝ) : EReal) := fun d => (EReal.coe_toReal (hb d).1 (hb d).2).symm
    have e : ∀ i d, (p i d : EReal) + b d = ((p i d + (b d).toReal : ℝ) : EReal) := fun i d => by
      rw [EReal.coe_add, ← hb' d]
    simp only [e, ← EReal.coe_mul, ← coe_sum, div768_coe]
    congr 1
    simp only [← Finset.sum_div]
    congr 1
    simp only [Finset.sum_mul_sum]
    rw [Finset.sum_comm (s := (Finset.univ : Finset (Fin 768)))]
    exact Finset.sum_congr rfl fun i _ => Finset.sum_comm
  · push Not at hb
    obtain ⟨d₀, hd₀⟩ := hb
    have hinf : b d₀ = ⊤ ∨ b d₀ = ⊥ := by
      by_cases h : b d₀ = ⊤
      · exact Or.inl h
      · exact Or.inr (hd₀ h)
    have hL : ∀ i j : Fin 95, Ideal.div (∑ d, ((p i d : EReal) + b d) * ((p j d : EReal) + b d)) c768 = ⊤ := fun i j => by
      rw [sum_eq_top Finset.univ _ ?_ (Finset.mem_univ d₀) ?_, div768_top]
      · intro d _
        generalize b d = y
        induction y with
        | bot => simp
        | top => simp
        | coe r => rw [← EReal.coe_add, ← EReal.coe_add, ← EReal.coe_mul]; exact EReal.coe_ne_bot _
      · rcases hinf with h | h <;> simp [h]
    have hR : ∑ i : Fin 95, ((p i d₀ : EReal) + b d₀) = ⊤ ∨ ∑ i : Fin 95, ((p i d₀ : EReal) + b d₀) = ⊥ := by
      rcases hinf with h | h
      · left
        exact sum_eq_top Finset.univ _ (fun i _ => by simp [h]) (Finset.mem_univ 0) (by simp [h])
      · right
        rw [← Finset.add_sum_erase _ _ (Finset.mem_univ (0 : Fin 95)), h]
        simp
    simp only [hL]
    rw [sum_eq_top Finset.univ (fun d => (∑ i : Fin 95, ((p i d : EReal) + b d)) * (∑ i : Fin 95, ((p i d : EReal) + b d)))
      (fun d _ => sq_ne_bot _) (Finset.mem_univ d₀) (sq_eq_top hR), div768_top]
    refine sum_eq_top Finset.univ _ (fun i _ => sum_ne_bot _ _ fun j _ => ?_) (Finset.mem_univ (0 : Fin 95)) ?_
    · simp
    · exact sum_eq_top Finset.univ _ (fun j _ => by simp) (Finset.mem_univ (0 : Fin 95)) rfl

/-! ## The loss -/

/-- 1 on every segment but the first, 0 on the first. -/
def mask (k : Fin 96) : EReal := if 1 ≤ k.val then 1 else 0

/-- The segment's row moved a tenth of the way to its mean. -/
def updRow (s dic : Fin 96 → Fin 768 → EReal) (cnt : Fin 96 → EReal) (k : Fin 96) (d : Fin 768) : EReal :=
  dic k d + ctenth * Ideal.div (s k d) (cnt k + 1) * mask k

/-- The moved rows, normalised. -/
def rowsOf (s dic : Fin 96 → Fin 768 → EReal) (cnt : Fin 96 → EReal) (w b : Fin 768 → EReal) (k : Fin 96) (d : Fin 768) : EReal :=
  lnorm (updRow s dic cnt k) (w d) (b d) d

/-- The mean square of the segment sums. -/
def posOf (s : Fin 96 → Fin 768 → EReal) : EReal := Ideal.div (∑ k, ∑ d, s k d * s k d) c768

/-- The loss from the segment sums, the rows added up before they are squared. -/
def lossSummed (s dic : Fin 96 → Fin 768 → EReal) (cnt : Fin 96 → EReal) (w b : Fin 768 → EReal) : EReal :=
  Ideal.div (∑ d, (∑ k, rowsOf s dic cnt w b k d * mask k) * (∑ k, rowsOf s dic cnt w b k d * mask k)) c768 - posOf s

/-- The loss from the segment sums, over every pair of rows but the first. -/
def lossPairs (s dic : Fin 96 → Fin 768 → EReal) (cnt : Fin 96 → EReal) (w b : Fin 768 → EReal) : EReal :=
  (∑ i : Fin 95, ∑ j : Fin 95, Ideal.div (∑ d, rowsOf s dic cnt w b i.succ d * rowsOf s dic cnt w b j.succ d) c768) - posOf s

theorem posOf_top (s : Fin 96 → Fin 768 → EReal) {k : Fin 96} {d : Fin 768} (h : s k d = ⊤ ∨ s k d = ⊥) : posOf s = ⊤ := by
  unfold posOf
  have hk : ∑ d, s k d * s k d = ⊤ :=
    sum_eq_top Finset.univ (fun d => s k d * s k d) (fun d _ => sq_ne_bot _) (Finset.mem_univ d) (sq_eq_top h)
  rw [sum_eq_top Finset.univ (fun k => ∑ d, s k d * s k d) (fun k _ => sum_ne_bot _ _ fun d _ => sq_ne_bot _) (Finset.mem_univ k) hk,
    div768_top]

theorem mask_real (k : Fin 96) : ∃ r : ℝ, mask k = (r : EReal) := by
  unfold mask
  split
  · exact ⟨1, rfl⟩
  · exact ⟨0, rfl⟩

/-- The two losses agree, the scale real, the counts natural numbers, and the segment sums `dic` plus anything. -/
theorem loss_eq (dic g : Fin 96 → Fin 768 → EReal) (n : Fin 96 → ℕ) (w : Fin 768 → ℝ) (b : Fin 768 → EReal) :
    lossSummed (fun k d => dic k d + g k d) dic (fun k => ((n k : ℝ) : EReal)) (fun d => (w d : EReal)) b
      = lossPairs (fun k d => dic k d + g k d) dic (fun k => ((n k : ℝ) : EReal)) (fun d => (w d : EReal)) b := by
  by_cases hs : ∀ k d, dic k d + g k d ≠ ⊤ ∧ dic k d + g k d ≠ ⊥
  · have hdic : ∀ k d, ∃ r : ℝ, dic k d = (r : EReal) := fun k d => by
      have h := hs k d
      revert h
      generalize dic k d = x
      generalize g k d = y
      intro h
      induction x with
      | bot => simp at h
      | coe r => exact ⟨r, rfl⟩
      | top =>
        induction y with
        | bot => simp at h
        | coe r => simp at h
        | top => simp at h
    have hup : ∀ k d, ∃ r : ℝ, updRow (fun k d => dic k d + g k d) dic (fun k => ((n k : ℝ) : EReal)) k d = (r : EReal) := fun k d => by
      unfold updRow
      obtain ⟨a, ha⟩ := hdic k d
      obtain ⟨s, hs'⟩ := isReal_of (hs k d).1 (hs k d).2
      obtain ⟨t, ht⟩ := ctenth_eq
      obtain ⟨q, hq⟩ := mask_real k
      beta_reduce
      rw [hs', ha, ht, hq]
      have h1 : ((n k : ℝ) : EReal) + 1 = ((n k + 1 : ℝ) : EReal) := by rw [EReal.coe_add]; rfl
      have h0 : (n k + 1 : ℝ) ≠ 0 := by positivity
      rw [h1, div_coe_coe _ h0, ← EReal.coe_mul, ← EReal.coe_mul, ← EReal.coe_add]
      exact ⟨_, rfl⟩
    choose r hr using hup
    have hrow : ∀ k d, rowsOf (fun k d => dic k d + g k d) dic (fun k => ((n k : ℝ) : EReal)) (fun d => (w d : EReal)) b k d
        = (((r k d - meanR (r k)) / sdR (r k) * w d : ℝ) : EReal) + b d := fun k d => by
      unfold rowsOf
      rw [show updRow (fun k d => dic k d + g k d) dic (fun k => ((n k : ℝ) : EReal)) k = fun d => (r k d : EReal) from
        funext (hr k), lnorm_coe]
    unfold lossSummed lossPairs
    congr 1
    have hm : ∀ d, ∑ k, rowsOf (fun k d => dic k d + g k d) dic (fun k => ((n k : ℝ) : EReal)) (fun d => (w d : EReal)) b k d * mask k
        = ∑ i : Fin 95, rowsOf (fun k d => dic k d + g k d) dic (fun k => ((n k : ℝ) : EReal)) (fun d => (w d : EReal)) b i.succ d := fun d => by
      rw [Fin.sum_univ_succ (n := 95)]
      rw [show mask 0 = 0 from rfl, mul_zero, zero_add]
      refine Finset.sum_congr rfl fun i _ => ?_
      rw [show mask i.succ = 1 from if_pos (by simp), mul_one]
    simp only [hm]
    simp only [hrow]
    exact (pair_sum_eq (fun i d => (r i.succ d - meanR (r i.succ)) / sdR (r i.succ) * w d) b).symm
  · push Not at hs
    obtain ⟨k, d, h⟩ := hs
    have hinf : dic k d + g k d = ⊤ ∨ dic k d + g k d = ⊥ := by
      by_cases h' : dic k d + g k d = ⊤
      · exact Or.inl h'
      · exact Or.inr (h h')
    unfold lossSummed lossPairs
    rw [posOf_top (fun k d => dic k d + g k d) (k := k) (d := d) hinf]
    simp

/-! ## The whole computation, over all the tokens -/

/-- Segment `k`'s tokens. -/
def members (lab : Fin 32768 → BitVec 32) (k : Fin 96) : Finset (Fin 32768) :=
  Finset.univ.filter fun n => lab n = BitVec.ofNat 32 k.val

/-- What the reference computes. -/
def lossRef (tok : Fin 32768 → Fin 768 → EReal) (lab : Fin 32768 → BitVec 32) (w b : Fin 768 → EReal) (dic : Fin 96 → Fin 768 → EReal) : EReal :=
  lossPairs (fun k d => dic k d + ∑ n ∈ members lab k, lnorm (tok n) (w d) (b d) d) dic (fun k => ∑ n ∈ members lab k, 1) w b

/-- The segment's part of the sums as the kernel computes it from the summed rows `ax` and the counts. -/
def segOf (ax : Fin 96 → Fin 768 → EReal) (cnt : Fin 96 → EReal) (w b : Fin 768 → EReal) (k : Fin 96) (d : Fin 768) : EReal :=
  w d * (ax k d - Ideal.div (∑ d', ax k d') c768) + cnt k * b d

/-- The loss from the summed rows and the counts. -/
def lossFin (ax : Fin 96 → Fin 768 → EReal) (cnt : Fin 96 → EReal) (w b : Fin 768 → EReal) (dic : Fin 96 → Fin 768 → EReal) : EReal :=
  lossSummed (fun k d => dic k d + segOf ax cnt w b k d) dic cnt w b

/-- What the kernel computes. -/
def lossKernel (tok : Fin 32768 → Fin 768 → EReal) (lab : Fin 32768 → BitVec 32) (w b : Fin 768 → EReal) (dic : Fin 96 → Fin 768 → EReal) : EReal :=
  lossFin (fun k d => ∑ n ∈ members lab k, scaled (tok n) d) (fun k => ∑ n ∈ members lab k, 1) w b dic

theorem count_eq (S : Finset (Fin 32768)) : (∑ n ∈ S, (1 : EReal)) = ((S.card : ℝ) : EReal) := by
  rw [Finset.sum_const, EReal.nsmul_eq_mul, mul_one, EReal.coe_natCast]

/-- The kernel's loss is the reference's, the tokens and the scale real. -/
theorem lossKernel_eq (tok : Fin 32768 → Fin 768 → EReal) (lab : Fin 32768 → BitVec 32) (w b : Fin 768 → EReal)
    (dic : Fin 96 → Fin 768 → EReal) (ht : ∀ n d, ∃ r : ℝ, tok n d = (r : EReal)) (hw : ∀ d, ∃ r : ℝ, w d = (r : EReal)) :
    lossKernel tok lab w b dic = lossRef tok lab w b dic := by
  choose x hx using ht
  choose v hv using hw
  obtain rfl : tok = fun n d => (x n d : EReal) := funext fun n => funext (hx n)
  obtain rfl : w = fun d => (v d : EReal) := funext hv
  unfold lossKernel lossRef lossFin
  simp only [count_eq]
  rw [show (fun k d => dic k d + segOf (fun k d => ∑ n ∈ members lab k, scaled (fun d => (x n d : EReal)) d)
        (fun k => (((members lab k).card : ℝ) : EReal)) (fun d => (v d : EReal)) b k d)
      = fun k d => dic k d + ∑ n ∈ members lab k, lnorm (fun d => (x n d : EReal)) (v d : EReal) (b d) d from
    funext fun k => funext fun d => congrArg (dic k d + ·) (segment_eq (members lab k) x (v d) (b d) d)]
  exact loss_eq dic (fun k d => ∑ n ∈ members lab k, lnorm (fun d => (x n d : EReal)) (v d : EReal) (b d) d) (fun k => (members lab k).card) v b

end Cert.Hand

end
-- ==== Proof.KernelPay.lean ====
module

public import proofs.«01_k».proof.Proof.KernelBlocks
public import proofs.«01_k».proof.Proof.Algebra
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen Cert.Hand

/-- The marking of the tokens of segment `k`. -/
theorem pay14_apply (t : Vec Ideal S1x1x4096 .i32) (k : Fin 96) (j : Fin 4096) :
    k0_pay14 (F := Ideal) t (ix2 k j) = if t (ix3 0 0 j) = BitVec.ofNat 32 k.val then 1 else 0 := by
  unfold k0_pay14
  pointwise
  show ((((IntOp.cmpi CmpIPredicate.eq (BitVec.ofNat 32 k.val) (t (ix3 0 0 j))).setWidth 32).toInt : ℝ) : EReal) = _
  by_cases h : t (ix3 0 0 j) = BitVec.ofNat 32 k.val
  · rw [if_pos h, h]
    simp [IntOp.cmpi]
  · rw [if_neg h]
    have h' : ¬BitVec.ofNat 32 k.val = t (ix3 0 0 j) := fun e => h e.symm
    simp [IntOp.cmpi, beq_false_of_ne h']

theorem pay2_apply (o : FVec Ideal S96x4096 .f32) (s : Vec Ideal S96x128 .f32) (k : Fin 96) (l : Fin 128) :
    k0_pay2 (F := Ideal) o s (ix2 k l) = s (ix2 k l) + ∑ j : Fin 4096, o (ix2 k j) := by
  unfold k0_pay2
  pointwise

/-- One block's counts. -/
theorem cntStep_apply (t : Vec Ideal S1x1x4096 .i32) (s : Vec Ideal S96x128 .f32) (k : Fin 96) (l : Fin 128) :
    cntStep (F := Ideal) t s (ix2 k l) =
      s (ix2 k l) + ∑ j : Fin 4096, if t (ix3 0 0 j) = BitVec.ofNat 32 k.val then 1 else 0 := by
  unfold cntStep
  rw [pay2_apply]
  simp only [pay14_apply]

theorem pay15_apply (x : Vec Ideal S4096x768 .f32) (t : Vec Ideal S1x1x4096 .i32) (s : Vec Ideal S96x768 .f32) (k : Fin 96) (d : Fin 768) :
    k0_pay15 (F := Ideal) x t s (ix2 k d) = s (ix2 k d) +
      ((∑ j : Fin 4096, k0_pay14 (F := Ideal) t (ix2 k j) * scaled (fun d => x (ix2 j d)) d) +
        ∑ j : Fin 4096, k0_pay14 (F := Ideal) t (ix2 k j) * (scaled (fun d => x (ix2 j d)) d - scaled (fun d => x (ix2 j d)) d)) := by
  unfold k0_pay15 scaled mean c768 ceps
  pointwise

/-- One block's sums of scaled tokens. The rest of a token after its rounding is zero, a scaled token being real. -/
theorem segStep_apply (x : Vec Ideal S4096x768 .f32) (t : Vec Ideal S1x1x4096 .i32) (s : Vec Ideal S96x768 .f32) (k : Fin 96) (d : Fin 768)
    (hx : ∀ j d, ∃ r : ℝ, x (ix2 j d) = (r : EReal)) :
    segStep (F := Ideal) x t s (ix2 k d) = s (ix2 k d) +
      ∑ j : Fin 4096, if t (ix3 0 0 j) = BitVec.ofNat 32 k.val then scaled (fun d => x (ix2 j d)) d else 0 := by
  have h0 : ∀ j : Fin 4096, scaled (fun d => x (ix2 j d)) d - scaled (fun d => x (ix2 j d)) d = 0 := by
    intro j
    choose r hr using hx j
    rw [show (fun d => x (ix2 j d)) = fun d => ((r d : ℝ) : EReal) from funext hr, scaled_coe, ← EReal.coe_sub, sub_self, EReal.coe_zero]
  unfold segStep
  rw [show k0_pay1 (k0_pay15 (F := Ideal) x t s) (ix2 k d) = k0_pay15 (F := Ideal) x t s (ix2 k d) by unfold k0_pay1; pointwise,
    pay15_apply]
  simp only [h0, mul_zero, Finset.sum_const_zero, add_zero, pay14_apply, ite_mul, one_mul, zero_mul]

theorem zero_seg (k : Fin 96) (d : Fin 768) : k0_pay11 (F := Ideal) (ix2 k d) = 0 := by
  unfold k0_pay11
  pointwise

theorem zero_cnt (k : Fin 96) (l : Fin 128) : k0_pay12 (F := Ideal) (ix2 k l) = 0 := by
  unfold k0_pay12
  pointwise

section
variable (w b : Vec Ideal S1x768 .f32) (dic : Vec Ideal S96x768 .f32) (cnt : Vec Ideal S96x1 .f32) (s : Vec Ideal S96x768 .f32)

/-- The segment sums as the last point computes them. -/
abbrev sums : Fin 96 → Fin 768 → EReal := fun k d =>
  dic (ix2 k d) + segOf (fun k d => s (ix2 k d)) (fun k => cnt (ix2 k 0)) (fun d => w (ix2 0 d)) (fun d => b (ix2 0 d)) k d

theorem pay6_apply (k : Fin 96) (d : Fin 768) : k0_pay6 (F := Ideal) w b dic cnt s (ix2 k d) = sums w b dic cnt s k d := by
  unfold k0_pay6 k0_pay4 k0_pay5 sums segOf c768
  pointwise

theorem pay7_eq : k0_pay7 (F := Ideal) w b dic cnt s = posOf (sums w b dic cnt s) := by
  unfold k0_pay7 posOf c768
  pointwise
  simp only [pay6_apply]

theorem pay8_apply (k : Fin 96) : k0_pay8 (F := Ideal) (ix2 k 0) = mask k := by
  unfold k0_pay8 mask
  pointwise
  show ((((IntOp.cmpi CmpIPredicate.sge (BitVec.ofNat 32 k.val) 1#32).setWidth 32).toInt : ℝ) : EReal) = _
  have h : ((IntOp.cmpi CmpIPredicate.sge (BitVec.ofNat 32 k.val) 1#32).setWidth 32).toInt = if 1 ≤ k.val then 1 else 0 := by
    revert k; decide +kernel
  rw [h]
  split <;> simp

theorem pay9_apply (k : Fin 96) (d : Fin 768) : k0_pay9 (F := Ideal) w b dic cnt s (ix2 k d) =
    updRow (sums w b dic cnt s) (fun k d => dic (ix2 k d)) (fun k => cnt (ix2 k 0)) k d := by
  unfold k0_pay9 updRow ctenth
  pointwise
  simp only [pay6_apply, pay8_apply]

theorem pay10_apply (k : Fin 96) : k0_pay10 (F := Ideal) w b dic cnt s (ix2 k 0) =
    ∑ d, updRow (sums w b dic cnt s) (fun k d => dic (ix2 k d)) (fun k => cnt (ix2 k 0)) k d := by
  unfold k0_pay10
  pointwise
  simp only [pay9_apply]

theorem pay3_apply (pos : Ideal .f32) (msk : Vec Ideal S96x1 .f32) (u : Vec Ideal S96x768 .f32) (r : Vec Ideal S96x1 .f32)
    (hr : ∀ k, r (ix2 k 0) = ∑ d, u (ix2 k d)) :
    k0_pay3 (F := Ideal) w b pos msk u r (ix2 0 0) =
      Ideal.div (∑ d, (∑ k : Fin 96, lnorm (fun d => u (ix2 k d)) (w (ix2 0 d)) (b (ix2 0 d)) d * msk (ix2 k 0)) *
        (∑ k : Fin 96, lnorm (fun d => u (ix2 k d)) (w (ix2 0 d)) (b (ix2 0 d)) d * msk (ix2 k 0))) c768 - pos := by
  unfold k0_pay3
  pointwise
  simp only [hr, lnorm, mean, c768, ceps, Finset.univ_unique, Finset.sum_singleton]
end

theorem col0_apply (cnt : Vec Ideal S96x128 .f32) (k : Fin 96) : col0 (F := Ideal) cnt (ix2 k 0) = cnt (ix2 k 0) := by
  show cnt _ = cnt _
  congr 1
  funext a
  apply Fin.ext
  match a with
  | ⟨0, _⟩ => show 0 + 1 * k.val = k.val; omega
  | ⟨1, _⟩ => rfl

/-- What the last point stores. -/
theorem finish_apply (w b : Vec Ideal S1x768 .f32) (dic : Vec Ideal S96x768 .f32) (cnt : Vec Ideal S96x128 .f32) (s : Vec Ideal S96x768 .f32) :
    finish (F := Ideal) w b dic cnt s (ix2 0 0) =
      lossFin (fun k d => s (ix2 k d)) (fun k => cnt (ix2 k 0)) (fun d => w (ix2 0 d)) (fun d => b (ix2 0 d)) (fun k d => dic (ix2 k d)) := by
  unfold finish
  rw [pay3_apply _ _ _ _ _ _ (fun k => by simp only [pay10_apply, pay9_apply])]
  have h4 : k0_pay4 (F := Ideal) w = w := by unfold k0_pay4; exact shapeCast_id _ _
  have h5 : k0_pay5 (F := Ideal) b = b := by unfold k0_pay5; exact shapeCast_id _ _
  simp only [pay7_eq, pay8_apply, pay9_apply, h4, h5]
  rw [← (funext (col0_apply cnt) : (fun k : Fin 96 => col0 (F := Ideal) cnt (ix2 k 0)) = fun k => cnt (ix2 k 0))]
  rfl

end Cert.KernelIdeal.Hand

end
-- ==== Proof.KernelTotal.lean ====
module

public import proofs.«01_k».proof.Proof.KernelPay

/-! The kernel's result is the loss in its segment-sum form: the eight blocks' sums add up to sums over all tokens. -/

@[expose] public section

set_option maxRecDepth 16384

noncomputable section

open Idealize.ShloMosaic Idealize.ShloMosaic.TcCoe Idealize.SL.Sem

namespace Cert.KernelIdeal.Hand

open Cert.KernelIdeal Cert.KernelIdeal.Gen Cert.Hand

/-- Eight blocks of 4096 tokens are all the tokens. -/
theorem sum_blocks (G : Fin 32768 → EReal) :
    ∑ t : Fin 8, ∑ j : Fin 4096, G ⟨j.val + 4096 * t.val, by omega⟩ = ∑ n, G n := by
  rw [← Fintype.sum_prod_type' (fun (t : Fin 8) (j : Fin 4096) => G ⟨j.val + 4096 * t.val, by omega⟩)]
  exact Fintype.sum_equiv (finProdFinEquiv (m := 8) (n := 4096)) _ _ fun p => rfl

/-- The tokens, the labels and the rows of the arguments by number. -/
abbrev tokOf (x : Vec Ideal S4x8192x768 .f32) : Fin 32768 → Fin 768 → EReal := fun n d => x (tokIx n d)
abbrev labOf (x : Vec Ideal S4x8192 .i32) : Fin 32768 → BitVec 32 := fun n => x (labIx n)
abbrev rowOf (x : Vec Ideal S768 .f32) : Fin 768 → EReal := fun d => x (ix1 d)
abbrev matOf (x : Vec Ideal S96x768 .f32) : Fin 96 → Fin 768 → EReal := fun k d => x (ix2 k d)

variable (m : (ℓ : Loc nD τ sig) → Buf (Elt Ideal) ℓ)

abbrev tokM (c : Dev nD) := tokOf (m ((c.tc : Thread nD τ).loc main_arg0))
abbrev labM (c : Dev nD) := labOf (m ((c.tc : Thread nD τ).loc main_arg4))

/-- Token `n`'s part of the sum of segment `k`, from the token's own number `v`. -/
def part (c : Dev nD) (v : Fin 32768 → EReal) (k : Fin 96) (n : Fin 32768) : EReal :=
  if labM m c n = BitVec.ofNat 32 k.val then v n else 0

/-- Block `t`'s part of the sum of segment `k`. -/
def blockPart (c : Dev nD) (v : Fin 32768 → EReal) (k : Fin 96) (t : ℕ) : EReal :=
  if h : t < 8 then ∑ j : Fin 4096, part m c v k ⟨j.val + 4096 * t, by omega⟩ else 0

theorem sum_blockPart (c : Dev nD) (v : Fin 32768 → EReal) (k : Fin 96) :
    ∑ t ∈ Finset.range 8, blockPart m c v k t = ∑ n ∈ members (labM m c) k, v n := by
  rw [Finset.sum_range]
  unfold blockPart
  simp only [Fin.is_lt, dif_pos]
  rw [sum_blocks (part m c v k)]
  unfold part members
  rw [Finset.sum_filter]

theorem lt8 {n : ℕ} (h : n < cfg0.N) : n < 8 := by rwa [show cfg0.N = 8 from N_0] at h

theorem cnt_block (c : Dev nD) (n : ℕ) (h : n < cfg0.N) (s : Vec Ideal S96x128 .f32) (k : Fin 96) (l : Fin 128) :
    cntStep (F := Ideal) (iblk m c 1 ⟨n, h⟩) s (ix2 k l) = s (ix2 k l) + blockPart m c (fun _ => 1) k n := by
  rw [cntStep_apply]
  unfold blockPart part
  rw [dif_pos (lt8 h)]
  congr 1
  exact Finset.sum_congr rfl fun j _ => by rw [blk1 m c ⟨n, lt8 h⟩ h j]

theorem seg_block (c : Dev nD) (hx : ∀ n d, ∃ r : ℝ, tokM m c n d = (r : EReal)) (n : ℕ) (h : n < cfg0.N) (s : Vec Ideal S96x768 .f32) (k : Fin 96) (d : Fin 768) :
    segStep (F := Ideal) (iblk m c 0 ⟨n, h⟩) (iblk m c 1 ⟨n, h⟩) s (ix2 k d) =
      s (ix2 k d) + blockPart m c (fun n => scaled (tokM m c n) d) k n := by
  rw [segStep_apply _ _ _ _ _ fun j d => by rw [blk0 m c ⟨n, lt8 h⟩ h j d]; exact hx _ d]
  unfold blockPart part
  rw [dif_pos (lt8 h)]
  congr 1
  refine Finset.sum_congr rfl fun j _ => ?_
  rw [blk1 m c ⟨n, lt8 h⟩ h j, show (fun d => (iblk m c 0 ⟨n, h⟩ : Vec Ideal S4096x768 .f32) (ix2 j d)) = _ from
    funext fun d => blk0 m c ⟨n, lt8 h⟩ h j d]

theorem cntAt_eq (c : Dev nD) (k : Fin 96) (l : Fin 128) : ∀ (n : ℕ) (h : n < cfg0.N),
    cntAt m c n h (ix2 k l) = ∑ t ∈ Finset.range (n + 1), blockPart m c (fun _ => 1) k t
  | 0, h => by
    show cntStep _ _ _ = _
    rw [cnt_block, zero_cnt, zero_add, Finset.sum_range_one]
  | n + 1, h => by
    show cntStep _ _ _ = _
    rw [cnt_block, cntAt_eq c k l n, Finset.sum_range_succ _ (n + 1)]

theorem segAt_eq (c : Dev nD) (hx : ∀ n d, ∃ r : ℝ, tokM m c n d = (r : EReal)) (k : Fin 96) (d : Fin 768) : ∀ (n : ℕ) (h : n < cfg0.N),
    segAt m c n h (ix2 k d) = ∑ t ∈ Finset.range (n + 1), blockPart m c (fun n => scaled (tokM m c n) d) k t
  | 0, h => by
    show segStep _ _ _ _ = _
    rw [seg_block m c hx, zero_seg, zero_add, Finset.sum_range_one]
  | n + 1, h => by
    show segStep _ _ _ _ = _
    rw [seg_block m c hx, segAt_eq c hx k d n, Finset.sum_range_succ _ (n + 1)]

/-- The kernel's result. -/
theorem result_eq (c : Dev nD) (hx : ∀ n d, ∃ r : ℝ, tokM m c n d = (r : EReal)) :
    result m c (ix2 0 0) = lossKernel (tokM m c) (labM m c) (rowOf (m ((c.tc : Thread nD τ).loc main_arg1)))
      (rowOf (m ((c.tc : Thread nD τ).loc main_arg2))) (matOf (m ((c.tc : Thread nD τ).loc main_arg3))) := by
  unfold result
  rw [finish_apply]
  have hs : (fun k d => segAt m c 7 lt7 (ix2 k d)) = fun k d => ∑ n ∈ members (labM m c) k, scaled (tokM m c n) d :=
    funext fun k => funext fun d => (segAt_eq m c hx k d 7 lt7).trans (sum_blockPart m c _ k)
  have hc : (fun k => cntAt m c 7 lt7 (ix2 k 0)) = fun k => ∑ n ∈ members (labM m c) k, 1 :=
    funext fun k => (cntAt_eq m c k 0 7 lt7).trans (sum_blockPart m c _ k)
  rw [hs, hc, funext (blk2 m c), funext (blk3 m c),
    (funext fun k => funext (blk4 m c k) : (fun k d => (iblk m c 4 t0_7 : Vec Ideal S96x768 .f32) (ix2 k d)) = _)]
  rfl

theorem cast_one (x : Vec Ideal S1x1 .f32) : (shapeCast S1 x shapeCasts_S1x1_S1 : Vec Ideal S1 .f32) = fun _ => x (ix2 0 0) := by
  funext i
  obtain rfl : i = ix1 (0 : Fin 1) := by rw [eq_ix1 i]; exact congrArg ix1 (Fin.fin_one_eq_zero _)
  pointwise

/-- The kernel's result, reshaped, at its one index. -/
theorem result_at (c : Dev nD) (hx : ∀ n d, ∃ r : ℝ, tokM m c n d = (r : EReal)) :
    (shapeCast S1 (result m c) shapeCasts_S1x1_S1 : Vec Ideal S1 .f32) = fun _ =>
      lossKernel (tokM m c) (labM m c) (rowOf (m ((c.tc : Thread nD τ).loc main_arg1)))
        (rowOf (m ((c.tc : Thread nD τ).loc main_arg2))) (matOf (m ((c.tc : Thread nD τ).loc main_arg3))) := by
  rw [← result_eq m c hx]
  exact cast_one _

end Cert.KernelIdeal.Hand

end
-- ==== Proof.ReferenceValue.lean ====
module

public import proofs.«01_k».proof.Defs
public import proofs.«01_k».proof.Proof.Algebra
public import proofs.«01_k».proof.Proof.Gen.ReferenceIdeal.Read
public import Idealize.ShloMosaic.Lib.Pointwise
public import Idealize.ShloMosaic.Lib.Routing.OpsPair

/-! The reference's result is the loss in its pairwise form. -/

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Cert.Hand

/-- Token `n` is token `n % 8192` of batch `n / 8192`. -/
abbrev tokOf (x : Vec Ideal S4x8192x768 .f32) : Fin 32768 → Fin 768 → EReal := fun n d =>
  x (ix3 (⟨n.val / 8192, by omega⟩ : Fin 4) (⟨n.val % 8192, by omega⟩ : Fin 8192) d)
abbrev labOf (x : Vec Ideal S4x8192 .i32) : Fin 32768 → BitVec 32 := fun n =>
  x (ix2 (⟨n.val / 8192, by omega⟩ : Fin 4) (⟨n.val % 8192, by omega⟩ : Fin 8192))
abbrev rowOf (x : Vec Ideal S768 .f32) : Fin 768 → EReal := fun d => x (ix1 d)
abbrev matOf (x : Vec Ideal S96x768 .f32) : Fin 96 → Fin 768 → EReal := fun k d => x (ix2 k d)

variable (x0 : Vec Ideal S4x8192x768 .f32) (x1 x2 : Vec Ideal S768 .f32) (x3 : Vec Ideal S96x768 .f32) (x4 : Vec Ideal S4x8192 .i32)

/-! ## The segment sums -/

/-- A label word is segment `k`'s number exactly when, read signed, it is `k`. -/
theorem word_eq (l : BitVec 32) (k : Fin 96) : l.toInt = (k.val : Int) ↔ l = BitVec.ofNat 32 k.val := by
  have hk : (BitVec.ofNat 32 k.val).toInt = (k.val : Int) := by revert k; decide +kernel
  rw [← hk]
  exact BitVec.toInt_inj

/-- Where the update of token `n`, entry `e`, lands among the rows. -/
theorem lands_row (idx : IVec S32768x1 32) (n : Fin 32768) (e : Fin 768) (k : Fin 96) (d : Fin 768) :
    scatter_S96x768_S32768x1_S32768x768_1_0_0_1.resultIdx? (ix2 n e) idx = some (ix2 k d) ↔
      idx (ix2 n 0) = BitVec.ofNat 32 k.val ∧ e = d := by
  have hs0 : scatter_S96x768_S32768x1_S32768x768_1_0_0_1.start (ix2 n e) idx 0 = (idx (ix2 n 0)).toInt := by
    unfold ScatterDims.start
    rw [dif_pos (by decide)]
    congr 2
    funext a
    match a with
    | ⟨0, _⟩ => rfl
    | ⟨1, _⟩ => rfl
  have hs1 : scatter_S96x768_S32768x1_S32768x768_1_0_0_1.start (ix2 n e) idx 1 = 0 := by
    unfold ScatterDims.start
    rw [dif_neg (by decide)]
  have hw0 : scatter_S96x768_S32768x1_S32768x768_1_0_0_1.window (ix2 n e) 0 = 0 := by
    unfold ScatterDims.window
    rw [dif_neg (by decide)]
  have hw1 : scatter_S96x768_S32768x1_S32768x768_1_0_0_1.window (ix2 n e) 1 = e.val := by
    unfold ScatterDims.window
    rw [dif_pos (by decide)]
    rfl
  rw [Routing.resultIdx?_eq_some, ← word_eq]
  constructor
  · intro h
    have h0 := h 0
    have h1 := h 1
    rw [hs0, hw0] at h0
    rw [hs1, hw1] at h1
    refine ⟨?_, Fin.ext ?_⟩
    · have : ((ix2 k d : S96x768.Idx) 0).val = k.val := rfl
      omega
    · have : ((ix2 k d : S96x768.Idx) 1).val = d.val := rfl
      omega
  · rintro ⟨h, rfl⟩ a
    match a with
    | ⟨0, _⟩ => show ScatterDims.start _ _ _ 0 + (ScatterDims.window _ _ 0 : Int) = (k.val : Int); rw [hs0, hw0, h]; omega
    | ⟨1, _⟩ => show ScatterDims.start _ _ _ 1 + (ScatterDims.window _ _ 1 : Int) = (e.val : Int); rw [hs1, hw1]; omega

/-- Where the update of token `n` lands among the counts. -/
theorem lands_cell (idx : IVec S32768x1 32) (n : Fin 32768) (k : Fin 96) :
    scatter_S96_S32768x1_S32768_n_0_0_1.resultIdx? (ix1 n) idx = some (ix1 k) ↔ idx (ix2 n 0) = BitVec.ofNat 32 k.val := by
  have hs0 : scatter_S96_S32768x1_S32768_n_0_0_1.start (ix1 n) idx 0 = (idx (ix2 n 0)).toInt := by
    unfold ScatterDims.start
    rw [dif_pos (by decide)]
    congr 2
    funext a
    match a with
    | ⟨0, _⟩ => rfl
    | ⟨1, _⟩ => rfl
  have hw0 : scatter_S96_S32768x1_S32768_n_0_0_1.window (ix1 n) 0 = 0 := by
    unfold ScatterDims.window
    rw [dif_neg (by decide)]
  rw [Routing.resultIdx?_eq_some, ← word_eq]
  constructor
  · intro h
    have h0 := h 0
    rw [hs0, hw0] at h0
    have : ((ix1 k : S96.Idx) 0).val = k.val := rfl
    omega
  · intro h a
    match a with
    | ⟨0, _⟩ => show ScatterDims.start _ _ _ 0 + (ScatterDims.window _ _ 0 : Int) = (k.val : Int); rw [hs0, hw0, h]; omega

/-- A scatter's sum at one position, for any attributes. -/
theorem scatter_at {s u i : Shape} {w : Nat} (d : ScatterDims s i u) (z : FVec Ideal s .f32) (idx : IVec i w) (v : FVec Ideal u .f32) (p : s.Idx) :
    Host.scatterAdd (F := Ideal) d z idx v p = z p + ∑ j ∈ Finset.univ.filter (fun j => d.resultIdx? j idx = some p), v j := rfl

theorem scatter_row (z : FVec Ideal S96x768 .f32) (idx : IVec S32768x1 32) (u : FVec Ideal S32768x768 .f32) (k : Fin 96) (d : Fin 768) :
    Host.scatterAdd (F := Ideal) scatter_S96x768_S32768x1_S32768x768_1_0_0_1 z idx u (ix2 k d) =
      z (ix2 k d) + ∑ n ∈ members (fun n => idx (ix2 n 0)) k, u (ix2 n d) := by
  rw [scatter_at]
  refine congrArg (z (ix2 k d) + ·) ?_
  symm
  refine Finset.sum_bij (fun n _ => (ix2 n d : S32768x768.Idx)) ?_ ?_ ?_ ?_
  · intro n hn
    exact Finset.mem_filter.2 ⟨Finset.mem_univ _, (lands_row idx n d k d).2 ⟨(Finset.mem_filter.1 hn).2, rfl⟩⟩
  · intro a _ b _ h
    exact congrFun h 0
  · intro j hj
    have hj' := (Finset.mem_filter.1 hj).2
    obtain ⟨n, e, rfl⟩ : ∃ n e, j = (ix2 n e : S32768x768.Idx) := ⟨j 0, j 1, eq_ix2 j⟩
    obtain ⟨h, rfl⟩ := (lands_row idx n e k d).1 hj'
    exact ⟨n, Finset.mem_filter.2 ⟨Finset.mem_univ _, h⟩, rfl⟩
  · intro n _
    rfl

theorem scatter_cell (z : FVec Ideal S96 .f32) (idx : IVec S32768x1 32) (u : FVec Ideal S32768 .f32) (k : Fin 96) :
    Host.scatterAdd (F := Ideal) scatter_S96_S32768x1_S32768_n_0_0_1 z idx u (ix1 k) =
      z (ix1 k) + ∑ n ∈ members (fun n => idx (ix2 n 0)) k, u (ix1 n) := by
  rw [scatter_at]
  refine congrArg (z (ix1 k) + ·) ?_
  symm
  refine Finset.sum_bij (fun n _ => (ix1 n : S32768.Idx)) ?_ ?_ ?_ ?_
  · intro n hn
    exact Finset.mem_filter.2 ⟨Finset.mem_univ _, (lands_cell idx n k).2 (Finset.mem_filter.1 hn).2⟩
  · intro a _ b _ h
    exact congrFun h 0
  · intro j hj
    have hj' := (Finset.mem_filter.1 hj).2
    obtain ⟨n, rfl⟩ : ∃ n, j = (ix1 n : S32768.Idx) := ⟨j 0, eq_ix1 j⟩
    exact ⟨n, Finset.mem_filter.2 ⟨Finset.mem_univ _, (lands_cell idx n k).1 hj'⟩, rfl⟩
  · intro n _
    rfl

/-! ## The stages -/

theorem v24_apply (n : Fin 32768) (d : Fin 768) :
    val_main_v24 (F := Ideal) x0 x1 x2 (ix2 n d) = lnorm (tokOf x0 n) (rowOf x1 d) (rowOf x2 d) d := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 lnorm mean c768 ceps
  pointwise

theorem v27_apply (n : Fin 32768) : val_main_v27 (F := Ideal) x4 (ix2 n 0) = labOf x4 n := by
  unfold val_main_v27 val_main_v25
  pointwise

/-- The counts. -/
abbrev cntR : Fin 96 → EReal := fun k => ∑ n ∈ members (labOf x4) k, 1
/-- The segment sums. -/
abbrev sumR : Fin 96 → Fin 768 → EReal := fun k d =>
  x3 (ix2 k d) + ∑ n ∈ members (labOf x4) k, lnorm (tokOf x0 n) (rowOf x1 d) (rowOf x2 d) d

theorem v32_apply (k : Fin 96) : val_main_v32 (F := Ideal) x4 (ix1 k) = cntR x4 k := by
  unfold val_main_v32
  rw [scatter_cell]
  rw [show val_main_v31 (F := Ideal) x4 = val_main_v27 (F := Ideal) x4 from rfl]
  simp only [v27_apply]
  unfold val_main_v30 val_main_cst_6 val_main_v29 val_main_cst_5
  pointwise

theorem v33_apply (k : Fin 96) (d : Fin 768) : val_main_v33 (F := Ideal) x0 x1 x2 x3 x4 (ix2 k d) = sumR x0 x1 x2 x3 x4 k d := by
  unfold val_main_v33
  refine congrArg (x3 (ix2 k d) + ·) ?_
  unfold val_main_v28
  rw [scatter_row]
  simp only [v27_apply, v24_apply]
  unfold val_main_v26 val_main_cst_4
  pointwise

theorem v36_apply (i : S_.Idx) : val_main_v36 (F := Ideal) x0 x1 x2 x3 x4 i = posOf (sumR x0 x1 x2 x3 x4) := by
  unfold val_main_v36 val_main_v35 val_main_v34 val_main_cst_7 val_main_cst_8 posOf c768
  pointwise
  simp only [v33_apply]

theorem v45_apply (k : Fin 96) : val_main_v45 (F := Ideal) (ix1 k) = mask k := by
  unfold val_main_v45 val_main_v44 val_main_v43 val_main_v42 val_main_c mask
  pointwise
  show (((IntOp.cmpi CmpIPredicate.sge (BitVec.ofNat 32 k.val) 1#32).toNat : ℝ) : EReal) = _
  rw [show (IntOp.cmpi CmpIPredicate.sge (BitVec.ofNat 32 k.val) 1#32) = if 1 ≤ k.val then 1#1 else 0#1 by revert k; decide +kernel]
  split <;> simp

theorem v51_apply (k : Fin 96) (d : Fin 768) : val_main_v51 (F := Ideal) x0 x1 x2 x3 x4 (ix2 k d) =
    updRow (sumR x0 x1 x2 x3 x4) (matOf x3) (cntR x4) k d := by
  unfold val_main_v51 val_main_v50 val_main_v49 val_main_v48 val_main_v47 val_main_v46 val_main_v41 val_main_v40 val_main_v39 val_main_v38 val_main_v37 val_main_cst_9 val_main_cst_10 updRow ctenth
  pointwise
  simp only [v33_apply, v32_apply, v45_apply]

theorem v75_apply (k : Fin 96) (d : Fin 768) : val_main_v75 (F := Ideal) x0 x1 x2 x3 x4 (ix2 k d) =
    rowsOf (sumR x0 x1 x2 x3 x4) (matOf x3) (cntR x4) (rowOf x1) (rowOf x2) k d := by
  unfold val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_cst_11 val_main_cst_12 val_main_cst_13 val_main_cst_14 val_main_cst_15 rowsOf lnorm mean c768 ceps
  pointwise
  simp only [v51_apply]

theorem v82_apply (i : S_.Idx) : val_main_v82 (F := Ideal) x0 x1 x2 x3 x4 i =
    ∑ i : Fin 95, ∑ j : Fin 95, Ideal.div (∑ d, rowsOf (sumR x0 x1 x2 x3 x4) (matOf x3) (cntR x4) (rowOf x1) (rowOf x2) i.succ d *
      rowsOf (sumR x0 x1 x2 x3 x4) (matOf x3) (cntR x4) (rowOf x1) (rowOf x2) j.succ d) c768 := by
  unfold val_main_v82 val_main_v81 val_main_v80 val_main_v79 val_main_v78 val_main_v77 val_main_v76 val_main_cst_16 val_main_cst_17 c768
  pointwise
  have h : ∀ (i : Fin 95) (d : Fin 768), val_main_v75 (F := Ideal) x0 x1 x2 x3 x4 (ix2 ⟨1 + i.val, by omega⟩ d) =
      rowsOf (sumR x0 x1 x2 x3 x4) (matOf x3) (cntR x4) (rowOf x1) (rowOf x2) i.succ d := fun i d =>
    (congrArg (fun a => val_main_v75 (F := Ideal) x0 x1 x2 x3 x4 (ix2 a d)) (Fin.ext (Nat.add_comm 1 i.val))).trans
      (v75_apply x0 x1 x2 x3 x4 i.succ d)
  simp only [h]

/-- The reference's result. -/
theorem value_eq : val_main_v84 (F := Ideal) x0 x1 x2 x3 x4 = fun _ =>
    lossRef (tokOf x0) (labOf x4) (rowOf x1) (rowOf x2) (matOf x3) := by
  funext i
  unfold val_main_v84 val_main_v83
  show val_main_v82 (F := Ideal) x0 x1 x2 x3 x4 _ - val_main_v36 (F := Ideal) x0 x1 x2 x3 x4 _ = _
  rw [v82_apply, v36_apply]
  rfl

end Cert.ReferenceIdeal.Hand

end
-- ==== Proof.Pre.lean ====
module

public import proofs.«01_k».proof.Defs
public import proofs.«01_k».proof.Proof.Algebra
public import proofs.«01_k».proof.Proof.Gen.Pre_finite_tokens_and_scale
public import Idealize.ShloMosaic.Lib.Pointwise
public import Idealize.ShloMosaic.Lib.ReduceAll

/-! What the precondition says: every token entry and every entry of the scale is a real number. -/

@[expose] public section

noncomputable section

open Idealize.ShloMosaic Idealize.SL.Sem

namespace Cert.Pre_finite_tokens_and_scale.Hand

open Cert.Pre_finite_tokens_and_scale Cert.Pre_finite_tokens_and_scale.Gen

theorem top_word : Ideal.ofBits FTy.f32 0x7F800000#32 = ⊤ := by
  simp only [Ideal.ofBits, Ideal.ieee]
  rw [if_pos (by decide), if_pos (by decide), if_neg (by decide)]

/-- An extended real whose magnitude is below infinity is a real number. -/
theorem real_of_abs {x : EReal} (h : Ideal.cmp CmpFPredicate.olt (max x (-x)) (Ideal.ofBits FTy.f32 0x7F800000#32) = 1#1) :
    ∃ r : ℝ, x = (r : EReal) := by
  rw [top_word] at h
  induction x with
  | bot => exfalso; revert h; simp [Ideal.cmp]
  | top => exfalso; revert h; simp [Ideal.cmp]
  | coe r => exact ⟨r, rfl⟩

theorem tokens_real (x0 : FVec Ideal S4x8192x768 .f32) (x1 x2 : FVec Ideal S768 .f32) (x3 : FVec Ideal S96x768 .f32) (x4 : IVec S4x8192 32)
    (h : fn (F := Ideal) x0 x1 x2 x3 x4 = fun _ => 1#1) :
    (∀ i, ∃ r : ℝ, x0 i = (r : EReal)) ∧ ∀ i, ∃ r : ℝ, x1 i = (r : EReal) := by
  have h0 := congrFun h ix0
  obtain ⟨ha, hb⟩ := IntOp.andi_eq_one.1 h0
  exact ⟨fun i => real_of_abs (Host.reduce_andi_all _ _ _ _ _ ha i), fun i => real_of_abs (Host.reduce_andi_all _ _ _ _ _ hb i)⟩

end Cert.Pre_finite_tokens_and_scale.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_tokens_and_scale
public import proofs.«01_k».proof.Proof.KernelValue
public import proofs.«01_k».proof.Proof.KernelTotal
public import proofs.«01_k».proof.Proof.ReferenceValue
public import proofs.«01_k».proof.Proof.Pre
public import Idealize.ShloMosaic.Lib.Quiescent

/-! The certificate: the three frames, the idealization, and the equality of the kernel's and the reference's loss over
    the extended reals. -/

@[expose] public section

noncomputable section

namespace Cert.Proof

open Idealize.ShloMosaic Idealize.SL.Sem

/-- The reference runs, leaves its arguments alone, and ends with every counter at zero: it has none. -/
theorem frame_reference : Cert.quiescent_ReferenceIdeal := fun m g _ =>
  (θ_run Cert.ReferenceIdeal.defs _ _).mono
    (fun r h => And.intro (fun c => (h c).2) (sem_eq_zero_of_no_sems (by decide) r.2)) (Cert.ReferenceIdeal.Value.run (F := Ideal) m g)

/-- The kernel's loss is the reference's. -/
theorem algebraic : Cert.algebraic_KernelIdeal_ReferenceIdeal_pre_finite_tokens_and_scale := by
  intro m g m' g' hpre hagree
  refine ⟨fun c => shapeCast Cert.KernelIdeal.S1 (Cert.KernelIdeal.Hand.result m c) Cert.KernelIdeal.Gen.shapeCasts_S1x1_S1,
    Cert.KernelIdeal.Hand.run m g, (θ_run Cert.ReferenceIdeal.defs _ _).mono (fun r h c => ?_)
      (Cert.ReferenceIdeal.Value.run (F := Ideal) m' g')⟩
  refine ⟨(h c).1.trans ?_, (h c).2⟩
  obtain ⟨h0, h1, h2, h3, h4⟩ := hagree c
  obtain ⟨hx, hw⟩ := Cert.Pre_finite_tokens_and_scale.Hand.tokens_real _ _ _ _ _ (hpre c)
  rw [Cert.ReferenceIdeal.Read.val_main_v84_eq, h0, h1, h2, h3, h4]
  refine (Cert.ReferenceIdeal.Hand.value_eq _ _ _ _ _).trans ?_
  refine Eq.trans ?_ (Cert.KernelIdeal.Hand.result_at m c (fun n d => hx _)).symm
  exact funext fun _ => (Cert.Hand.lossKernel_eq _ _ _ _ _ (fun n d => hx _) (fun d => hw _)).symm

theorem claim : Cert.Claim :=
  ⟨Cert.Kernel.Gen.facts, Cert.KernelIdeal.Gen.facts, Cert.ReferenceIdeal.Gen.facts, Cert.Pre_finite_tokens_and_scale.Gen.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
